-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "inv_n" .f32 0x3AA72F05#32 ((1 / 784 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v91)) (v1 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_v94) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v242) = v0 c
          ∧ r.2.mem ((c.tc : Thread Cert.ReferenceIdeal.nD Cert.ReferenceIdeal.τ).loc Cert.ReferenceIdeal.main_v248) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x256x28x28 : Shape := ⟨4, ![4, 256, 28, 28]⟩
abbrev S4x224x224 : Shape := ⟨3, ![4, 224, 224]⟩
abbrev S4x3x3 : Shape := ⟨3, ![4, 3, 3]⟩
abbrev S4x4x4 : Shape := ⟨3, ![4, 4, 4]⟩
abbrev S4 : Shape := ⟨1, ![4]⟩
abbrev S128x256 : Shape := ⟨2, ![128, 256]⟩
abbrev S128 : Shape := ⟨1, ![128]⟩
abbrev S_ : Shape := ⟨0, ![]⟩
abbrev S128x1 : Shape := ⟨2, ![128, 1]⟩
abbrev S1 : Shape := ⟨1, ![1]⟩

class Facts : Prop where
  bcast_S_S4x256x28x28 : S_.BroadcastsInDim S4x256x28x28 (![] : Fin 0 → Fin S4x256x28x28.rank)
  reducesTo_S4x256x28x28_S_d0_1_2_3 : S4x256x28x28.ReducesTo [0, 1, 2, 3] S_
  h_S_ : 0 < S_.numel
  bcast_S_S128x256 : S_.BroadcastsInDim S128x256 (![] : Fin 0 → Fin S128x256.rank)
  reducesTo_S128x256_S_d0_1 : S128x256.ReducesTo [0, 1] S_

variable [Facts]

def fn {F : FTy → Type} [FloatOps F] (main_arg0 : FVec F S4x256x28x28 .f32) (main_arg1 : FVec F S4x224x224 .f32) (main_arg2 : FVec F S4x3x3 .f32) (main_arg3 : FVec F S4x4x4 .f32) (main_arg4 : FVec F S4 .f32) (main_arg5 : FVec F S128x256 .f32) (main_arg6 : FVec F S128 .f32) (main_arg7 : FVec F S128 .f32) (main_arg8 : FVec F S_ .f32) (main_arg9 : FVec F S128 .f32) (main_arg10 : FVec F S128 .f32) (main_arg11 : FVec F S128x1 .f32) (main_arg12 : FVec F S1 .f32) : IVec S_ 1 :=
  let main_v0 : FVec F S4x256x28x28 .f32 := Host.absf main_arg0
  let main_cst : FVec F S_ .f32 := constant S_ .f32 0x7F800000#32
  let main_v1 : FVec F S4x256x28x28 .f32 := broadcastInDim S4x256x28x28 ![] bcast_S_S4x256x28x28 main_cst
  let main_v2 : IVec S4x256x28x28 1 := cmpf .olt main_v0 main_v1
  let main_c : IVec S_ 1 := constantI S_ 1 1#1
  let main_v3 : IVec S_ 1 := (fun x v => Host.reduce IntOp.andi x v reducesTo_S4x256x28x28_S_d0_1_2_3 h_S_) main_v2 main_c
  let main_v4 : FVec F S128x256 .f32 := Host.absf main_arg5
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S_ .f32 := Host.absf main_arg8
  let main_cst_2 : FVec F S_ .f32 := constant S_ .f32 0x7F800000#32
  let main_v10 : IVec S_ 1 := cmpf .olt main_v9 main_cst_2
  let main_v11 : IVec S_ 1 := andi main_v8 main_v10
  main_v11
-- ==== Kernel.lean ====
abbrev S4x256x28x28 : Shape := ⟨4, ![4, 256, 28, 28]⟩
abbrev S4x224x224 : Shape := ⟨3, ![4, 224, 224]⟩
abbrev S4x3x3 : Shape := ⟨3, ![4, 3, 3]⟩
abbrev S4x4x4 : Shape := ⟨3, ![4, 4, 4]⟩
abbrev S4 : Shape := ⟨1, ![4]⟩
abbrev S128x256 : Shape := ⟨2, ![128, 256]⟩
abbrev S128 : Shape := ⟨1, ![128]⟩
abbrev S_ : Shape := ⟨0, ![]⟩
abbrev S128x1 : Shape := ⟨2, ![128, 1]⟩
abbrev S1 : Shape := ⟨1, ![1]⟩
abbrev S128x128 : Shape := ⟨2, ![128, 128]⟩
abbrev S224x28 : Shape := ⟨2, ![224, 28]⟩
abbrev S4x256x784 : Shape := ⟨3, ![4, 256, 784]⟩
abbrev S1x128 : Shape := ⟨2, ![1, 128]⟩
abbrev S4x784x128 : Shape := ⟨3, ![4, 784, 128]⟩
abbrev S1x256x784 : Shape := ⟨3, ![1, 256, 784]⟩
abbrev S1x784x128 : Shape := ⟨3, ![1, 784, 128]⟩
abbrev S256x784 : Shape := ⟨2, ![256, 784]⟩
abbrev S784x128 : Shape := ⟨2, ![784, 128]⟩
abbrev S4x28x3584 : Shape := ⟨3, ![4, 28, 3584]⟩
abbrev S4x224x3584 : Shape := ⟨3, ![4, 224, 3584]⟩
abbrev S1x28x3584 : Shape := ⟨3, ![1, 28, 3584]⟩
abbrev S1x224x3584 : Shape := ⟨3, ![1, 224, 3584]⟩
abbrev S28x3584 : Shape := ⟨2, ![28, 3584]⟩
abbrev S224x3584 : Shape := ⟨2, ![224, 3584]⟩
abbrev S4x1x1 : Shape := ⟨3, ![4, 1, 1]⟩
abbrev S4x3x1 : Shape := ⟨3, ![4, 3, 1]⟩
abbrev S4x3 : Shape := ⟨2, ![4, 3]⟩
abbrev S4x1 : Shape := ⟨2, ![4, 1]⟩
abbrev S4x16 : Shape := ⟨2, ![4, 16]⟩
abbrev S4x1x16 : Shape := ⟨3, ![4, 1, 16]⟩
abbrev S112x8x28x128 : Shape := ⟨4, ![112, 8, 28, 128]⟩
abbrev S112x8x224x128 : Shape := ⟨4, ![112, 8, 224, 128]⟩
abbrev S112x8x224x1 : Shape := ⟨4, ![112, 8, 224, 1]⟩
abbrev S112x8x224 : Shape := ⟨3, ![112, 8, 224]⟩
abbrev S1x8x28x128 : Shape := ⟨4, ![1, 8, 28, 128]⟩
abbrev S1x8x224 : Shape := ⟨3, ![1, 8, 224]⟩
abbrev S1x1x16 : Shape := ⟨3, ![1, 1, 16]⟩
abbrev S1x8x224x128 : Shape := ⟨4, ![1, 8, 224, 128]⟩
abbrev S1x8x224x1 : Shape := ⟨4, ![1, 8, 224, 1]⟩
abbrev S16 : Shape := ⟨1, ![16]⟩
abbrev S1x1x28x128 : Shape := ⟨4, ![1, 1, 28, 128]⟩
abbrev S28x128 : Shape := ⟨2, ![28, 128]⟩
abbrev S224x128 : Shape := ⟨2, ![224, 128]⟩
abbrev S1x1x224x128 : Shape := ⟨4, ![1, 1, 224, 128]⟩
abbrev S224 : Shape := ⟨1, ![224]⟩
abbrev S224x1 : Shape := ⟨2, ![224, 1]⟩
abbrev S1x1x224x1 : Shape := ⟨4, ![1, 1, 224, 1]⟩
abbrev S1x1x224 : Shape := ⟨3, ![1, 1, 224]⟩
abbrev S1x224 : Shape := ⟨2, ![1, 224]⟩
abbrev S200704x128 : Shape := ⟨2, ![200704, 128]⟩
abbrev S200704x1 : Shape := ⟨2, ![200704, 1]⟩
abbrev S200704 : Shape := ⟨1, ![200704]⟩
abbrev S1x1 : Shape := ⟨2, ![1, 1]⟩
abbrev S2048x128 : Shape := ⟨2, ![2048, 128]⟩
abbrev S2048x1 : Shape := ⟨2, ![2048, 1]⟩
abbrev S160000x128 : Shape := ⟨2, ![160000, 128]⟩
abbrev S160000x1 : Shape := ⟨2, ![160000, 1]⟩
abbrev S8000x128 : Shape := ⟨2, ![8000, 128]⟩
abbrev S8000x1 : Shape := ⟨2, ![8000, 1]⟩
abbrev S4x200x200x128 : Shape := ⟨4, ![4, 200, 200, 128]⟩
abbrev S4x128x200x200 : Shape := ⟨4, ![4, 128, 200, 200]⟩
abbrev S4x200x200x1 : Shape := ⟨4, ![4, 200, 200, 1]⟩
abbrev S4x1x200x200 : Shape := ⟨4, ![4, 1, 200, 200]⟩

abbrev nBuf : Space → Nat
  | .hbm => 128
  | .vmem => 50
  | .smem => 0
  | _ => 0

abbrev bufTy : (tb : Table) → Fin (tcTables nBuf tb) → BufTy
  | .hbm, ⟨0, _⟩ => ⟨S4x256x28x28, .f32⟩
  | .hbm, ⟨1, _⟩ => ⟨S4x224x224, .f32⟩
  | .hbm, ⟨2, _⟩ => ⟨S4x3x3, .f32⟩
  | .hbm, ⟨3, _⟩ => ⟨S4x4x4, .f32⟩
  | .hbm, ⟨4, _⟩ => ⟨S4, .f32⟩
  | .hbm, ⟨5, _⟩ => ⟨S128x256, .f32⟩
  | .hbm, ⟨6, _⟩ => ⟨S128, .f32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S128x1, .f32⟩
  | .hbm, ⟨12, _⟩ => ⟨S1, .f32⟩
  | .hbm, ⟨13, _⟩ => ⟨S128x128, .f32⟩
  | .hbm, ⟨14, _⟩ => ⟨S224x28, .f32⟩
  | .hbm, ⟨15, _⟩ => ⟨S224x28, .f32⟩
  | .hbm, ⟨16, _⟩ => ⟨S4x256x784, .f32⟩
  | .hbm, ⟨17, _⟩ => ⟨S1x128, .f32⟩
  | .hbm, ⟨18, _⟩ => ⟨S1x128, .f32⟩
  | .hbm, ⟨19, _⟩ => ⟨S4x784x128, .f32⟩
  | .hbm, ⟨20, _⟩ => ⟨S4x28x3584, .f32⟩
  | .hbm, ⟨21, _⟩ => ⟨S4x224x3584, .f32⟩
  | .hbm, ⟨22, _⟩ => ⟨S4x1x1, .f32⟩
  | .hbm, ⟨23, _⟩ => ⟨S4, .f32⟩
  | .hbm, ⟨24, _⟩ => ⟨S4x1x1, .f32⟩
  | .hbm, ⟨25, _⟩ => ⟨S4, .f32⟩
  | .hbm, ⟨26, _⟩ => ⟨S4x1x1, .f32⟩
  | .hbm, ⟨27, _⟩ => ⟨S4, .f32⟩
  | .hbm, ⟨28, _⟩ => ⟨S4x1x1, .f32⟩
  | .hbm, ⟨29, _⟩ => ⟨S4, .f32⟩
  | .hbm, ⟨30, _⟩ => ⟨S4x3x3, .f32⟩
  | .hbm, ⟨31, _⟩ => ⟨S4x3x1, .f32⟩
  | .hbm, ⟨32, _⟩ => ⟨S4x3, .f32⟩
  | .hbm, ⟨33, _⟩ => ⟨S_, .f32⟩
  | .hbm, ⟨34, _⟩ => ⟨S_, .f32⟩
  | .hbm, ⟨35, _⟩ => ⟨S4x1x1, .f32⟩
  | .hbm, ⟨36, _⟩ => ⟨S4, .f32⟩
  | .hbm, ⟨37, _⟩ => ⟨S4x1x1, .f32⟩
  | .hbm, ⟨38, _⟩ => ⟨S4, .f32⟩
  | .hbm, ⟨39, _⟩ => ⟨S4x1x1, .f32⟩
  | .hbm, ⟨40, _⟩ => ⟨S4, .f32⟩
  | .hbm, ⟨41, _⟩ => ⟨S4x1x1, .f32⟩
  | .hbm, ⟨42, _⟩ => ⟨S4, .f32⟩
  | .hbm, ⟨43, _⟩ => ⟨S4x1x1, .f32⟩
  | .hbm, ⟨44, _⟩ => ⟨S4, .f32⟩
  | .hbm, ⟨45, _⟩ => ⟨S4x1x1, .f32⟩
  | .hbm, ⟨46, _⟩ => ⟨S4, .f32⟩
  | .hbm, ⟨47, _⟩ => ⟨S4x1, .f32⟩
  | .hbm, ⟨48, _⟩ => ⟨S4, .f32⟩
  | .hbm, ⟨49, _⟩ => ⟨S4x1, .f32⟩
  | .hbm, ⟨50, _⟩ => ⟨S4, .f32⟩
  | .hbm, ⟨51, _⟩ => ⟨S_, .f32⟩
  | .hbm, ⟨52, _⟩ => ⟨S4, .f32⟩
  | .hbm, ⟨53, _⟩ => ⟨S_, .f32⟩
  | .hbm, ⟨54, _⟩ => ⟨S4, .f32⟩
  | .hbm, ⟨55, _⟩ => ⟨S4, .f32⟩
  | .hbm, ⟨56, _⟩ => ⟨S4x1, .f32⟩
  | .hbm, ⟨57, _⟩ => ⟨S4x1, .f32⟩
  | .hbm, ⟨58, _⟩ => ⟨S4x1, .f32⟩
  | .hbm, ⟨59, _⟩ => ⟨S4x1, .f32⟩
  | .hbm, ⟨60, _⟩ => ⟨S4x1, .f32⟩
  | .hbm, ⟨61, _⟩ => ⟨S4x1, .f32⟩
  | .hbm, ⟨62, _⟩ => ⟨S4x1, .f32⟩
  | .hbm, ⟨63, _⟩ => ⟨S4x1, .f32⟩
  | .hbm, ⟨64, _⟩ => ⟨S4x1, .f32⟩
  | .hbm, ⟨65, _⟩ => ⟨S4x1, .f32⟩
  | .hbm, ⟨66, _⟩ => ⟨S4x1, .f32⟩
  | .hbm, ⟨67, _⟩ => ⟨S4x1, .f32⟩
  | .hbm, ⟨68, _⟩ => ⟨S4x1, .f32⟩
  | .hbm, ⟨69, _⟩ => ⟨S4x1, .f32⟩
  | .hbm, ⟨70, _⟩ => ⟨S4x1, .f32⟩
  | .hbm, ⟨71, _⟩ => ⟨S4x1, .f32⟩
  | .hbm, ⟨72, _⟩ => ⟨S4x16, .f32⟩
  | .hbm, ⟨73, _⟩ => ⟨S4x1x16, .f32⟩
  | .hbm, ⟨74, _⟩ => ⟨S112x8x28x128, .f32⟩
  | .hbm, ⟨75, _⟩ => ⟨S1x128, .f32⟩
  | .hbm, ⟨76, _⟩ => ⟨S1x128, .f32⟩
  | .hbm, ⟨77, _⟩ => ⟨S1x128, .f32⟩
  | .hbm, ⟨78, _⟩ => ⟨S112x8x224x128, .f32⟩
  | .hbm, ⟨79, _⟩ => ⟨S112x8x224x1, .f32⟩
  | .hbm, ⟨80, _⟩ => ⟨S112x8x224, .f32⟩
  | .hbm, ⟨81, _⟩ => ⟨S112x8x224, .i32⟩
  | .hbm, ⟨82, _⟩ => ⟨S200704x128, .f32⟩
  | .hbm, ⟨83, _⟩ => ⟨S200704x1, .f32⟩
  | .hbm, ⟨84, _⟩ => ⟨S200704x1, .f32⟩
  | .hbm, ⟨85, _⟩ => ⟨S200704, .i32⟩
  | .hbm, ⟨86, _⟩ => ⟨S_, .f32⟩
  | .hbm, ⟨87, _⟩ => ⟨S200704x1, .f32⟩
  | .hbm, ⟨88, _⟩ => ⟨S200704x1, .i1⟩
  | .hbm, ⟨89, _⟩ => ⟨S_, .f32⟩
  | .hbm, ⟨90, _⟩ => ⟨S_, .f32⟩
  | .hbm, ⟨91, _⟩ => ⟨S200704x1, .f32⟩
  | .hbm, ⟨92, _⟩ => ⟨S200704x1, .f32⟩
  | .hbm, ⟨93, _⟩ => ⟨S_, .f32⟩
  | .hbm, ⟨94, _⟩ => ⟨S_, .f32⟩
  | .hbm, ⟨95, _⟩ => ⟨S1x1, .f32⟩
  | .hbm, ⟨96, _⟩ => ⟨S200704x128, .f32⟩
  | .hbm, ⟨97, _⟩ => ⟨S200704x1, .f32⟩
  | .hbm, ⟨98, _⟩ => ⟨S_, .f32⟩
  | .hbm, ⟨99, _⟩ => ⟨S160000x128, .f32⟩
  | .hbm, ⟨100, _⟩ => ⟨S_, .i32⟩
  | .hbm, ⟨101, _⟩ => ⟨S200704, .i32⟩
  | .hbm, ⟨102, _⟩ => ⟨S200704, .i1⟩
  | .hbm, ⟨103, _⟩ => ⟨S_, .i32⟩
  | .hbm, ⟨104, _⟩ => ⟨S200704, .i32⟩
  | .hbm, ⟨105, _⟩ => ⟨S200704, .i32⟩
  | .hbm, ⟨106, _⟩ => ⟨S200704, .i32⟩
  | .hbm, ⟨107, _⟩ => ⟨S200704x1, .i32⟩
  | .hbm, ⟨108, _⟩ => ⟨S160000x128, .f32⟩
  | .hbm, ⟨109, _⟩ => ⟨S_, .f32⟩
  | .hbm, ⟨110, _⟩ => ⟨S160000x1, .f32⟩
  | .hbm, ⟨111, _⟩ => ⟨S_, .i32⟩
  | .hbm, ⟨112, _⟩ => ⟨S200704, .i32⟩
  | .hbm, ⟨113, _⟩ => ⟨S200704, .i1⟩
  | .hbm, ⟨114, _⟩ => ⟨S_, .i32⟩
  | .hbm, ⟨115, _⟩ => ⟨S200704, .i32⟩
  | .hbm, ⟨116, _⟩ => ⟨S200704, .i32⟩
  | .hbm, ⟨117, _⟩ => ⟨S200704, .i32⟩
  | .hbm, ⟨118, _⟩ => ⟨S200704x1, .i32⟩
  | .hbm, ⟨119, _⟩ => ⟨S160000x1, .f32⟩
  | .hbm, ⟨120, _⟩ => ⟨S160000x128, .f32⟩
  | .hbm, ⟨121, _⟩ => ⟨S160000x1, .f32⟩
  | .hbm, ⟨122, _⟩ => ⟨S4x200x200x128, .f32⟩
  | .hbm, ⟨123, _⟩ => ⟨S4x128x200x200, .f32⟩
  | .hbm, ⟨124, _⟩ => ⟨S4x128x200x200, .f32⟩
  | .hbm, ⟨125, _⟩ => ⟨S4x200x200x1, .f32⟩
  | .hbm, ⟨126, _⟩ => ⟨S4x1x200x200, .f32⟩
  | .hbm, ⟨127, _⟩ => ⟨S4x1x200x200, .f32⟩
  | .local _ .vmem, ⟨0, _⟩ => ⟨S1x256x784, .f32⟩
  | .local _ .vmem, ⟨1, _⟩ => ⟨S1x256x784, .f32⟩
  | .local _ .vmem, ⟨2, _⟩ => ⟨S128x256, .f32⟩
  | .local _ .vmem, ⟨3, _⟩ => ⟨S128x128, .f32⟩
  | .local _ .vmem, ⟨4, _⟩ => ⟨S1x128, .f32⟩
  | .local _ .vmem, ⟨5, _⟩ => ⟨S1x128, .f32⟩
  | .local _ .vmem, ⟨6, _⟩ => ⟨S1x784x128, .f32⟩
  | .local _ .vmem, ⟨7, _⟩ => ⟨S1x784x128, .f32⟩
  | .local _ .vmem, ⟨8, _⟩ => ⟨S224x28, .f32⟩
  | .local _ .vmem, ⟨9, _⟩ => ⟨S1x28x3584, .f32⟩
  | .local _ .vmem, ⟨10, _⟩ => ⟨S1x28x3584, .f32⟩
  | .local _ .vmem, ⟨11, _⟩ => ⟨S1x224x3584, .f32⟩
  | .local _ .vmem, ⟨12, _⟩ => ⟨S1x224x3584, .f32⟩
  | .local _ .vmem, ⟨13, _⟩ => ⟨S1x8x28x128, .f32⟩
  | .local _ .vmem, ⟨14, _⟩ => ⟨S1x8x28x128, .f32⟩
  | .local _ .vmem, ⟨15, _⟩ => ⟨S224x28, .f32⟩
  | .local _ .vmem, ⟨16, _⟩ => ⟨S1x8x224, .f32⟩
  | .local _ .vmem, ⟨17, _⟩ => ⟨S1x8x224, .f32⟩
  | .local _ .vmem, ⟨18, _⟩ => ⟨S1x1x16, .f32⟩
  | .local _ .vmem, ⟨19, _⟩ => ⟨S1x1x16, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x8x224x128, .f32⟩
  | .local _ .vmem, ⟨24, _⟩ => ⟨S1x8x224x128, .f32⟩
  | .local _ .vmem, ⟨25, _⟩ => ⟨S1x8x224x1, .f32⟩
  | .local _ .vmem, ⟨26, _⟩ => ⟨S1x8x224x1, .f32⟩
  | .local _ .vmem, ⟨27, _⟩ => ⟨S1x8x224, .f32⟩
  | .local _ .vmem, ⟨28, _⟩ => ⟨S1x8x224, .f32⟩
  | .local _ .vmem, ⟨29, _⟩ => ⟨S1x8x224, .i32⟩
  | .local _ .vmem, ⟨30, _⟩ => ⟨S1x8x224, .i32⟩
  | .local _ .vmem, ⟨31, _⟩ => ⟨S2048x128, .f32⟩
  | .local _ .vmem, ⟨32, _⟩ => ⟨S2048x128, .f32⟩
  | .local _ .vmem, ⟨33, _⟩ => ⟨S2048x1, .f32⟩
  | .local _ .vmem, ⟨34, _⟩ => ⟨S2048x1, .f32⟩
  | .local _ .vmem, ⟨35, _⟩ => ⟨S2048x1, .f32⟩
  | .local _ .vmem, ⟨36, _⟩ => ⟨S2048x1, .f32⟩
  | .local _ .vmem, ⟨37, _⟩ => ⟨S1x1, .f32⟩
  | .local _ .vmem, ⟨38, _⟩ => ⟨S2048x128, .f32⟩
  | .local _ .vmem, ⟨39, _⟩ => ⟨S2048x128, .f32⟩
  | .local _ .vmem, ⟨40, _⟩ => ⟨S2048x1, .f32⟩
  | .local _ .vmem, ⟨41, _⟩ => ⟨S2048x1, .f32⟩
  | .local _ .vmem, ⟨42, _⟩ => ⟨S8000x128, .f32⟩
  | .local _ .vmem, ⟨43, _⟩ => ⟨S8000x128, .f32⟩
  | .local _ .vmem, ⟨44, _⟩ => ⟨S8000x1, .f32⟩
  | .local _ .vmem, ⟨45, _⟩ => ⟨S8000x1, .f32⟩
  | .local _ .vmem, ⟨46, _⟩ => ⟨S8000x128, .f32⟩
  | .local _ .vmem, ⟨47, _⟩ => ⟨S8000x128, .f32⟩
  | .local _ .vmem, ⟨48, _⟩ => ⟨S8000x1, .f32⟩
  | .local _ .vmem, ⟨49, _⟩ => ⟨S8000x1, .f32⟩
  | _, _ => ⟨S4x256x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_cst_0 : Ref sig .tc := ⟨.hbm, 14, rfl⟩
abbrev main_cst_1 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_2 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61_0 : Ref sig .tc := ⟨.hbm, 78, rfl⟩
abbrev main_v61_1 : Ref sig .tc := ⟨.hbm, 79, rfl⟩
abbrev main_v61_2 : Ref sig .tc := ⟨.hbm, 80, rfl⟩
abbrev main_v61_3 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_3 : Ref sig .tc := ⟨.hbm, 86, rfl⟩
abbrev main_v66 : Ref sig .tc := ⟨.hbm, 87, rfl⟩
abbrev main_v67 : Ref sig .tc := ⟨.hbm, 88, rfl⟩
abbrev main_cst_4 : Ref sig .tc := ⟨.hbm, 89, rfl⟩
abbrev main_call0_v0 : Ref sig .tc := ⟨.hbm, 90, rfl⟩
abbrev main_call0_v1 : Ref sig .tc := ⟨.hbm, 91, rfl⟩
abbrev main_v68 : Ref sig .tc := ⟨.hbm, 92, rfl⟩
abbrev main_cst_5 : Ref sig .tc := ⟨.hbm, 93, rfl⟩
abbrev main_v69 : Ref sig .tc := ⟨.hbm, 94, rfl⟩
abbrev main_v70 : Ref sig .tc := ⟨.hbm, 95, rfl⟩
abbrev main_v71_0 : Ref sig .tc := ⟨.hbm, 96, rfl⟩
abbrev main_v71_1 : Ref sig .tc := ⟨.hbm, 97, rfl⟩
abbrev main_cst_6 : Ref sig .tc := ⟨.hbm, 98, rfl⟩
abbrev main_v72 : Ref sig .tc := ⟨.hbm, 99, rfl⟩
abbrev main_c : Ref sig .tc := ⟨.hbm, 100, rfl⟩
abbrev main_v73 : Ref sig .tc := ⟨.hbm, 101, rfl⟩
abbrev main_v74 : Ref sig .tc := ⟨.hbm, 102, rfl⟩
abbrev main_c_7 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_8 : Ref sig .tc := ⟨.hbm, 109, rfl⟩
abbrev main_v80 : Ref sig .tc := ⟨.hbm, 110, rfl⟩
abbrev main_c_9 : Ref sig .tc := ⟨.hbm, 111, rfl⟩
abbrev main_v81 : Ref sig .tc := ⟨.hbm, 112, rfl⟩
abbrev main_v82 : Ref sig .tc := ⟨.hbm, 113, rfl⟩
abbrev main_c_10 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88_0 : Ref sig .tc := ⟨.hbm, 120, rfl⟩
abbrev main_v88_1 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg7_1 : Ref sig .tc := ⟨.vmem, 24, rfl⟩
abbrev cc2_stg8_0 : Ref sig .tc := ⟨.vmem, 25, rfl⟩
abbrev cc2_stg8_1 : Ref sig .tc := ⟨.vmem, 26, rfl⟩
abbrev cc2_stg9_0 : Ref sig .tc := ⟨.vmem, 27, rfl⟩
abbrev cc2_stg9_1 : Ref sig .tc := ⟨.vmem, 28, rfl⟩
abbrev cc2_stg10_0 : Ref sig .tc := ⟨.vmem, 29, rfl⟩
abbrev cc2_stg10_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg2_1 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg4_1 : Ref sig .tc := ⟨.vmem, 39, rfl⟩
abbrev cc3_stg5_0 : Ref sig .tc := ⟨.vmem, 40, rfl⟩
abbrev cc3_stg5_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg2_1 : Ref sig .tc := ⟨.vmem, 47, rfl⟩
abbrev cc4_stg3_0 : Ref sig .tc := ⟨.vmem, 48, rfl⟩
abbrev cc4_stg3_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem7_1 : DmaSem sig := 24
abbrev cc2_sem8_0 : DmaSem sig := 25
abbrev cc2_sem8_1 : DmaSem sig := 26
abbrev cc2_sem9_0 : DmaSem sig := 27
abbrev cc2_sem9_1 : DmaSem sig := 28
abbrev cc2_sem10_0 : DmaSem sig := 29
abbrev cc2_sem10_1 : DmaSem sig := 30
abbrev cc3_sem0_0 : DmaSem sig := 31
abbrev cc3_sem0_1 : DmaSem sig := 32
abbrev cc3_sem1_0 : DmaSem sig := 33
abbrev cc3_sem1_1 : DmaSem sig := 34
abbrev cc3_sem2_0 : DmaSem sig := 35
abbrev cc3_sem2_1 : DmaSem sig := 36
abbrev cc3_sem3_0 : DmaSem sig := 37
abbrev cc3_sem4_0 : DmaSem sig := 38
abbrev cc3_sem4_1 : DmaSem sig := 39
abbrev cc3_sem5_0 : DmaSem sig := 40
abbrev cc3_sem5_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem2_1 : DmaSem sig := 47
abbrev cc4_sem3_0 : DmaSem sig := 48
abbrev cc4_sem3_1 : DmaSem sig := 49

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x784x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S224x28 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x28x3584 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x224x3584 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![112], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c28_i32 : BitVec 32 := 28#32
  let v0 : BitVec 32 := Scalar.divsi arg0 c28_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c28_i32 c0_i32_1
  let v7 : BitVec 32 := Scalar.extui v6
  let c0_i32_2 : BitVec 32 := 0#32
  let v8 : BitVec 1 := Scalar.cmpi .slt c28_i32 c0_i32_2
  let v9 : BitVec 32 := Scalar.extui v8
  let v10 : BitVec 32 := Scalar.subi v7 v9
  let v11 : BitVec 1 := Scalar.cmpi .ne v5 v10
  let v12 : BitVec 32 := Scalar.remsi arg0 c28_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c28_i32_4 : BitVec 32 := 28#32
  let c0_i32_5 : BitVec 32 := 0#32
  let v17 : BitVec 1 := Scalar.cmpi .eq c28_i32_4 c0_i32_5
  let c1_i32_6 : BitVec 32 := 1#32
  let v18 : BitVec 32 := Scalar.select v17 c1_i32_6 c28_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc2_transform_3 (i : grid2.Coords) : Fin 3 → Nat :=
  let arg0 : BitVec 32 := BitVec.ofNat 32 (i 0).val
  let c28_i32 : BitVec 32 := 28#32
  let v0 : BitVec 32 := Scalar.divsi arg0 c28_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c28_i32 c0_i32_1
  let v7 : BitVec 32 := Scalar.extui v6
  let c0_i32_2 : BitVec 32 := 0#32
  let v8 : BitVec 1 := Scalar.cmpi .slt c28_i32 c0_i32_2
  let v9 : BitVec 32 := Scalar.extui v8
  let v10 : BitVec 32 := Scalar.subi v7 v9
  let v11 : BitVec 1 := Scalar.cmpi .ne v5 v10
  let v12 : BitVec 32 := Scalar.remsi arg0 c28_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_8 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_9 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_10 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x8x28x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S224x28 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x8x224 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1x8x224x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x8x224x1 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1x8x224 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S1x8x224 .i32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![98], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2048x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2048x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S2048x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S8000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]
-- ==== KernelIdeal.lean ====
variable {F : FTy → Type} [FloatOps F] [Named F]
def κ : String → Option EReal := fun
  | "inv_n" => some ((1 / 784 : ℝ) : EReal)
  | _ => none
-- ==== ReferenceIdeal.lean ====
abbrev S4x256x28x28 : Shape := ⟨4, ![4, 256, 28, 28]⟩
abbrev S4x224x224 : Shape := ⟨3, ![4, 224, 224]⟩
abbrev S4x3x3 : Shape := ⟨3, ![4, 3, 3]⟩
abbrev S4x4x4 : Shape := ⟨3, ![4, 4, 4]⟩
abbrev S4 : Shape := ⟨1, ![4]⟩
abbrev S128x256 : Shape := ⟨2, ![128, 256]⟩
abbrev S128 : Shape := ⟨1, ![128]⟩
abbrev S_ : Shape := ⟨0, ![]⟩
abbrev S128x1 : Shape := ⟨2, ![128, 1]⟩
abbrev S1 : Shape := ⟨1, ![1]⟩
abbrev S224 : Shape := ⟨1, ![224]⟩
abbrev S224x224 : Shape := ⟨2, ![224, 224]⟩
abbrev S1x224x224 : Shape := ⟨3, ![1, 224, 224]⟩
abbrev S4x1x1 : Shape := ⟨3, ![4, 1, 1]⟩
abbrev S4x224x224x1 : Shape := ⟨4, ![4, 224, 224, 1]⟩
abbrev S4x224x224x3 : Shape := ⟨4, ![4, 224, 224, 3]⟩
abbrev S4x50176x3 : Shape := ⟨3, ![4, 50176, 3]⟩
abbrev S4x3x1 : Shape := ⟨3, ![4, 3, 1]⟩
abbrev S4x3 : Shape := ⟨2, ![4, 3]⟩
abbrev S4x1x3 : Shape := ⟨3, ![4, 1, 3]⟩
abbrev S4x1 : Shape := ⟨2, ![4, 1]⟩
abbrev S4x50176x1 : Shape := ⟨3, ![4, 50176, 1]⟩
abbrev S4x50176 : Shape := ⟨2, ![4, 50176]⟩
abbrev S200704 : Shape := ⟨1, ![200704]⟩
abbrev S128x4x28x28 : Shape := ⟨4, ![128, 4, 28, 28]⟩
abbrev S4x128x28x28 : Shape := ⟨4, ![4, 128, 28, 28]⟩
abbrev S4x32x4x28x28 : Shape := ⟨5, ![4, 32, 4, 28, 28]⟩
abbrev S4x32 : Shape := ⟨2, ![4, 32]⟩
abbrev S4x32x1x1x1 : Shape := ⟨5, ![4, 32, 1, 1, 1]⟩
abbrev S1x128x1x1 : Shape := ⟨4, ![1, 128, 1, 1]⟩
abbrev S224x1 : Shape := ⟨2, ![224, 1]⟩
abbrev S28 : Shape := ⟨1, ![28]⟩
abbrev S1x28 : Shape := ⟨2, ![1, 28]⟩
abbrev S224x28 : Shape := ⟨2, ![224, 28]⟩
abbrev S224x4x128x28 : Shape := ⟨4, ![224, 4, 128, 28]⟩
abbrev S4x128x224x28 : Shape := ⟨4, ![4, 128, 224, 28]⟩
abbrev S4x128x224x224 : Shape := ⟨4, ![4, 128, 224, 224]⟩
abbrev S4x128x50176 : Shape := ⟨3, ![4, 128, 50176]⟩
abbrev S4x50176x128 : Shape := ⟨3, ![4, 50176, 128]⟩
abbrev S200704x128 : Shape := ⟨2, ![200704, 128]⟩
abbrev S200704x1 : Shape := ⟨2, ![200704, 1]⟩
abbrev S1x128 : Shape := ⟨2, ![1, 128]⟩
abbrev S1x1 : Shape := ⟨2, ![1, 1]⟩
abbrev S160000x1 : Shape := ⟨2, ![160000, 1]⟩
abbrev S160000x128 : Shape := ⟨2, ![160000, 128]⟩
abbrev S4x200x200x128 : Shape := ⟨4, ![4, 200, 200, 128]⟩
abbrev S4x128x200x200 : Shape := ⟨4, ![4, 128, 200, 200]⟩
abbrev S4x200x200x1 : Shape := ⟨4, ![4, 200, 200, 1]⟩
abbrev S4x1x200x200 : Shape := ⟨4, ![4, 1, 200, 200]⟩

abbrev nBuf : Space → Nat
  | .hbm => 315
  | .vmem => 0
  | .smem => 0
  | _ => 0

abbrev hbmTy0_0 (i : Nat) : BufTy := match i % 128 with
  | 0 => ⟨S4x256x28x28, .f32⟩
  | 1 => ⟨S4x224x224, .f32⟩
  | 2 => ⟨S4x3x3, .f32⟩
  | 3 => ⟨S4x4x4, .f32⟩
  | 4 => ⟨S4, .f32⟩
  | 5 => ⟨S128x256, .f32⟩
  | 6 => ⟨S128, .f32⟩
  | 7 => ⟨S128, .f32⟩
  | 8 => ⟨S_, .f32⟩
  | 9 => ⟨S128, .f32⟩
  | 10 => ⟨S128, .f32⟩
  | 11 => ⟨S128x1, .f32⟩
  | 12 => ⟨S1, .f32⟩
  | 13 => ⟨S224, .f32⟩
  | 14 => ⟨S224, .f32⟩
  | 15 => ⟨S224x224, .f32⟩
  | 16 => ⟨S224x224, .f32⟩
  | 17 => ⟨S1x224x224, .f32⟩
  | 18 => ⟨S4x224x224, .f32⟩
  | 19 => ⟨S1x224x224, .f32⟩
  | 20 => ⟨S4x224x224, .f32⟩
  | 21 => ⟨S4x1x1, .f32⟩
  | 22 => ⟨S4, .f32⟩
  | 23 => ⟨S4x1x1, .f32⟩
  | 24 => ⟨S4x224x224, .f32⟩
  | 25 => ⟨S4x224x224, .f32⟩
  | 26 => ⟨S4x224x224, .f32⟩
  | 27 => ⟨S4x1x1, .f32⟩
  | 28 => ⟨S4, .f32⟩
  | 29 => ⟨S4x1x1, .f32⟩
  | 30 => ⟨S4x224x224, .f32⟩
  | 31 => ⟨S4x224x224, .f32⟩
  | 32 => ⟨S4x1x1, .f32⟩
  | 33 => ⟨S4, .f32⟩
  | 34 => ⟨S4x1x1, .f32⟩
  | 35 => ⟨S4x224x224, .f32⟩
  | 36 => ⟨S4x224x224, .f32⟩
  | 37 => ⟨S4x224x224, .f32⟩
  | 38 => ⟨S4x1x1, .f32⟩
  | 39 => ⟨S4, .f32⟩
  | 40 => ⟨S4x1x1, .f32⟩
  | 41 => ⟨S4x224x224, .f32⟩
  | 42 => ⟨S4x224x224, .f32⟩
  | 43 => ⟨S4x224x224x1, .f32⟩
  | 44 => ⟨S4x224x224x1, .f32⟩
  | 45 => ⟨S4x224x224x1, .f32⟩
  | 46 => ⟨S4x224x224x3, .f32⟩
  | 47 => ⟨S4x50176x3, .f32⟩
  | 48 => ⟨S4x3x3, .f32⟩
  | 49 => ⟨S4x3x3, .f32⟩
  | 50 => ⟨S4x50176x3, .f32⟩
  | 51 => ⟨S4x3x1, .f32⟩
  | 52 => ⟨S4x3, .f32⟩
  | 53 => ⟨S4x1x3, .f32⟩
  | 54 => ⟨S4x50176x3, .f32⟩
  | 55 => ⟨S4x50176x3, .f32⟩
  | 56 => ⟨S4x1, .f32⟩
  | 57 => ⟨S_, .f32⟩
  | 58 => ⟨S4x1, .f32⟩
  | 59 => ⟨S4x1, .f32⟩
  | 60 => ⟨S_, .f32⟩
  | 61 => ⟨S4x1, .f32⟩
  | 62 => ⟨S4x1, .f32⟩
  | 63 => ⟨S4x50176x1, .f32⟩
  | 64 => ⟨S4x50176, .f32⟩
  | 65 => ⟨S4x50176, .f32⟩
  | 66 => ⟨S4x50176, .f32⟩
  | 67 => ⟨S4x50176, .f32⟩
  | 68 => ⟨S4x50176, .i32⟩
  | 69 => ⟨S4x50176x1, .f32⟩
  | 70 => ⟨S4x50176, .f32⟩
  | 71 => ⟨S4x50176, .f32⟩
  | 72 => ⟨S4x50176, .f32⟩
  | 73 => ⟨S4x50176, .f32⟩
  | 74 => ⟨S4x50176, .f32⟩
  | 75 => ⟨S4x50176, .f32⟩
  | 76 => ⟨S4x50176, .i32⟩
  | 77 => ⟨S_, .i32⟩
  | 78 => ⟨S4x50176, .i32⟩
  | 79 => ⟨S4x50176, .i1⟩
  | 80 => ⟨S_, .i32⟩
  | 81 => ⟨S4x50176, .i32⟩
  | 82 => ⟨S4x50176, .i1⟩
  | 83 => ⟨S4x50176, .i1⟩
  | 84 => ⟨S_, .i32⟩
  | 85 => ⟨S4x50176, .i32⟩
  | 86 => ⟨S4x50176, .i1⟩
  | 87 => ⟨S4x50176, .i1⟩
  | 88 => ⟨S_, .i32⟩
  | 89 => ⟨S4x50176, .i32⟩
  | 90 => ⟨S4x50176, .i1⟩
  | 91 => ⟨S4x50176, .i1⟩
  | 92 => ⟨S4, .i32⟩
  | 93 => ⟨S_, .i32⟩
  | 94 => ⟨S4, .i32⟩
  | 95 => ⟨S4, .i32⟩
  | 96 => ⟨S4x1, .i32⟩
  | 97 => ⟨S_, .i32⟩
  | 98 => ⟨S4x50176, .i32⟩
  | 99 => ⟨S4x50176, .i32⟩
  | 100 => ⟨S4x50176, .i32⟩
  | 101 => ⟨S4x50176, .i32⟩
  | 102 => ⟨S4x50176, .i32⟩
  | 103 => ⟨S200704, .i1⟩
  | 104 => ⟨S200704, .i32⟩
  | 105 => ⟨S_, .i32⟩
  | 106 => ⟨S_, .i32⟩
  | 107 => ⟨S200704, .i32⟩
  | 108 => ⟨S200704, .i32⟩
  | 109 => ⟨S128x4x28x28, .f32⟩
  | 110 => ⟨S4x128x28x28, .f32⟩
  | 111 => ⟨S4x32x4x28x28, .f32⟩
  | 112 => ⟨S_, .f32⟩
  | 113 => ⟨S4x32, .f32⟩
  | 114 => ⟨S4x32x1x1x1, .f32⟩
  | 115 => ⟨S_, .f32⟩
  | 116 => ⟨S4x32x1x1x1, .f32⟩
  | 117 => ⟨S4x32x1x1x1, .f32⟩
  | 118 => ⟨S4x32x4x28x28, .f32⟩
  | 119 => ⟨S4x32x4x28x28, .f32⟩
  | 120 => ⟨S4x32x4x28x28, .f32⟩
  | 121 => ⟨S_, .f32⟩
  | 122 => ⟨S4x32, .f32⟩
  | 123 => ⟨S4x32x1x1x1, .f32⟩
  | 124 => ⟨S_, .f32⟩
  | 125 => ⟨S4x32x1x1x1, .f32⟩
  | 126 => ⟨S4x32x1x1x1, .f32⟩
  | 127 => ⟨S4x32x4x28x28, .f32⟩
  | _ => ⟨S4x256x28x28, .f32⟩

abbrev hbmTy0_1 (i : Nat) : BufTy := match i % 128 with
  | 0 => ⟨S4x32x4x28x28, .f32⟩
  | 1 => ⟨S_, .f32⟩
  | 2 => ⟨S4x32x1x1x1, .f32⟩
  | 3 => ⟨S4x32x1x1x1, .f32⟩
  | 4 => ⟨S4x32x1x1x1, .f32⟩
  | 5 => ⟨S4x32x4x28x28, .f32⟩
  | 6 => ⟨S4x32x4x28x28, .f32⟩
  | 7 => ⟨S4x128x28x28, .f32⟩
  | 8 => ⟨S1x128x1x1, .f32⟩
  | 9 => ⟨S4x128x28x28, .f32⟩
  | 10 => ⟨S4x128x28x28, .f32⟩
  | 11 => ⟨S1x128x1x1, .f32⟩
  | 12 => ⟨S4x128x28x28, .f32⟩
  | 13 => ⟨S4x128x28x28, .f32⟩
  | 14 => ⟨S4x128x28x28, .f32⟩
  | 15 => ⟨S4x128x28x28, .f32⟩
  | 16 => ⟨S_, .f32⟩
  | 17 => ⟨S4x128x28x28, .f32⟩
  | 18 => ⟨S4x128x28x28, .f32⟩
  | 19 => ⟨S_, .f32⟩
  | 20 => ⟨S4x128x28x28, .f32⟩
  | 21 => ⟨S4x128x28x28, .f32⟩
  | 22 => ⟨S4x128x28x28, .f32⟩
  | 23 => ⟨S224, .f32⟩
  | 24 => ⟨S_, .f32⟩
  | 25 => ⟨S224, .f32⟩
  | 26 => ⟨S224, .f32⟩
  | 27 => ⟨S_, .f32⟩
  | 28 => ⟨S224, .f32⟩
  | 29 => ⟨S224, .f32⟩
  | 30 => ⟨S_, .f32⟩
  | 31 => ⟨S224, .f32⟩
  | 32 => ⟨S224, .f32⟩
  | 33 => ⟨S224x1, .f32⟩
  | 34 => ⟨S28, .f32⟩
  | 35 => ⟨S1x28, .f32⟩
  | 36 => ⟨S224x28, .f32⟩
  | 37 => ⟨S224x28, .f32⟩
  | 38 => ⟨S224x28, .f32⟩
  | 39 => ⟨S224x28, .f32⟩
  | 40 => ⟨S_, .f32⟩
  | 41 => ⟨S224x28, .f32⟩
  | 42 => ⟨S224x28, .f32⟩
  | 43 => ⟨S_, .f32⟩
  | 44 => ⟨S224x28, .f32⟩
  | 45 => ⟨S224x28, .f32⟩
  | 46 => ⟨S_, .f32⟩
  | 47 => ⟨S224, .f32⟩
  | 48 => ⟨S224x1, .f32⟩
  | 49 => ⟨S224x28, .f32⟩
  | 50 => ⟨S224x28, .f32⟩
  | 51 => ⟨S224x4x128x28, .f32⟩
  | 52 => ⟨S4x128x224x28, .f32⟩
  | 53 => ⟨S224, .f32⟩
  | 54 => ⟨S_, .f32⟩
  | 55 => ⟨S224, .f32⟩
  | 56 => ⟨S224, .f32⟩
  | 57 => ⟨S_, .f32⟩
  | 58 => ⟨S224, .f32⟩
  | 59 => ⟨S224, .f32⟩
  | 60 => ⟨S_, .f32⟩
  | 61 => ⟨S224, .f32⟩
  | 62 => ⟨S224, .f32⟩
  | 63 => ⟨S224x1, .f32⟩
  | 64 => ⟨S28, .f32⟩
  | 65 => ⟨S1x28, .f32⟩
  | 66 => ⟨S224x28, .f32⟩
  | 67 => ⟨S224x28, .f32⟩
  | 68 => ⟨S224x28, .f32⟩
  | 69 => ⟨S224x28, .f32⟩
  | 70 => ⟨S_, .f32⟩
  | 71 => ⟨S224x28, .f32⟩
  | 72 => ⟨S224x28, .f32⟩
  | 73 => ⟨S_, .f32⟩
  | 74 => ⟨S224x28, .f32⟩
  | 75 => ⟨S224x28, .f32⟩
  | 76 => ⟨S_, .f32⟩
  | 77 => ⟨S224, .f32⟩
  | 78 => ⟨S224x1, .f32⟩
  | 79 => ⟨S224x28, .f32⟩
  | 80 => ⟨S224x28, .f32⟩
  | 81 => ⟨S4x128x224x224, .f32⟩
  | 82 => ⟨S4x128x50176, .f32⟩
  | 83 => ⟨S4x50176x128, .f32⟩
  | 84 => ⟨S200704x128, .f32⟩
  | 85 => ⟨S_, .f32⟩
  | 86 => ⟨S200704, .f32⟩
  | 87 => ⟨S200704x1, .f32⟩
  | 88 => ⟨S_, .f32⟩
  | 89 => ⟨S200704x1, .f32⟩
  | 90 => ⟨S200704x1, .f32⟩
  | 91 => ⟨S200704x128, .f32⟩
  | 92 => ⟨S200704x128, .f32⟩
  | 93 => ⟨S200704x128, .f32⟩
  | 94 => ⟨S_, .f32⟩
  | 95 => ⟨S200704, .f32⟩
  | 96 => ⟨S200704x1, .f32⟩
  | 97 => ⟨S_, .f32⟩
  | 98 => ⟨S200704x1, .f32⟩
  | 99 => ⟨S200704x1, .f32⟩
  | 100 => ⟨S200704x128, .f32⟩
  | 101 => ⟨S200704x128, .f32⟩
  | 102 => ⟨S_, .f32⟩
  | 103 => ⟨S200704x1, .f32⟩
  | 104 => ⟨S200704x1, .f32⟩
  | 105 => ⟨S200704x1, .f32⟩
  | 106 => ⟨S200704x128, .f32⟩
  | 107 => ⟨S200704x128, .f32⟩
  | 108 => ⟨S1x128, .f32⟩
  | 109 => ⟨S200704x128, .f32⟩
  | 110 => ⟨S200704x128, .f32⟩
  | 111 => ⟨S1x128, .f32⟩
  | 112 => ⟨S200704x128, .f32⟩
  | 113 => ⟨S200704x128, .f32⟩
  | 114 => ⟨S200704x1, .f32⟩
  | 115 => ⟨S1x1, .f32⟩
  | 116 => ⟨S200704x1, .f32⟩
  | 117 => ⟨S200704x1, .f32⟩
  | 118 => ⟨S_, .f32⟩
  | 119 => ⟨S200704x1, .f32⟩
  | 120 => ⟨S200704x1, .f32⟩
  | 121 => ⟨S200704x1, .i1⟩
  | 122 => ⟨S_, .f32⟩
  | 123 => ⟨S_, .f32⟩
  | 124 => ⟨S200704x1, .f32⟩
  | 125 => ⟨S200704x1, .f32⟩
  | 126 => ⟨S_, .f32⟩
  | 127 => ⟨S_, .f32⟩
  | _ => ⟨S4x256x28x28, .f32⟩

abbrev hbmTy0_2 (i : Nat) : BufTy := match i % 128 with
  | 0 => ⟨S200704x1, .i1⟩
  | 1 => ⟨S200704x1, .f32⟩
  | 2 => ⟨S200704x1, .f32⟩
  | 3 => ⟨S_, .f32⟩
  | 4 => ⟨S200704x1, .f32⟩
  | 5 => ⟨S200704x1, .f32⟩
  | 6 => ⟨S200704x1, .f32⟩
  | 7 => ⟨S200704x1, .i1⟩
  | 8 => ⟨S200704x1, .f32⟩
  | 9 => ⟨S200704x1, .f32⟩
  | 10 => ⟨S_, .f32⟩
  | 11 => ⟨S160000x1, .f32⟩
  | 12 => ⟨S_, .i32⟩
  | 13 => ⟨S200704, .i32⟩
  | 14 => ⟨S200704, .i1⟩
  | 15 => ⟨S_, .i32⟩
  | 16 => ⟨S200704, .i32⟩
  | 17 => ⟨S200704, .i32⟩
  | 18 => ⟨S200704, .i32⟩
  | 19 => ⟨S200704x1, .i32⟩
  | 20 => ⟨S160000x1, .f32⟩
  | 21 => ⟨S200704x128, .f32⟩
  | 22 => ⟨S200704x128, .f32⟩
  | 23 => ⟨S_, .i32⟩
  | 24 => ⟨S200704, .i32⟩
  | 25 => ⟨S200704, .i1⟩
  | 26 => ⟨S_, .i32⟩
  | 27 => ⟨S200704, .i32⟩
  | 28 => ⟨S200704, .i32⟩
  | 29 => ⟨S200704, .i32⟩
  | 30 => ⟨S200704x1, .i32⟩
  | 31 => ⟨S200704x1, .f32⟩
  | 32 => ⟨S_, .f32⟩
  | 33 => ⟨S_, .f32⟩
  | 34 => ⟨S200704x1, .f32⟩
  | 35 => ⟨S200704x1, .f32⟩
  | 36 => ⟨S200704x128, .f32⟩
  | 37 => ⟨S200704x128, .f32⟩
  | 38 => ⟨S_, .f32⟩
  | 39 => ⟨S160000x128, .f32⟩
  | 40 => ⟨S_, .i32⟩
  | 41 => ⟨S200704, .i32⟩
  | 42 => ⟨S200704, .i1⟩
  | 43 => ⟨S_, .i32⟩
  | 44 => ⟨S200704, .i32⟩
  | 45 => ⟨S200704, .i32⟩
  | 46 => ⟨S200704, .i32⟩
  | 47 => ⟨S200704x1, .i32⟩
  | 48 => ⟨S160000x128, .f32⟩
  | 49 => ⟨S4x200x200x128, .f32⟩
  | 50 => ⟨S4x128x200x200, .f32⟩
  | 51 => ⟨S4x128x200x200, .f32⟩
  | 52 => ⟨S_, .f32⟩
  | 53 => ⟨S160000x1, .f32⟩
  | 54 => ⟨S160000x1, .i1⟩
  | 55 => ⟨S4x200x200x1, .i1⟩
  | 56 => ⟨S4x1x200x200, .i1⟩
  | 57 => ⟨S4x1x200x200, .f32⟩
  | 58 => ⟨S4x1x200x200, .f32⟩
  | _ => ⟨S4x256x28x28, .f32⟩

abbrev hbmTy (i : Nat) : BufTy := match i / 128 with
  | 0 => hbmTy0_0 i
  | 1 => hbmTy0_1 i
  | 2 => hbmTy0_2 i
  | _ => ⟨S4x256x28x28, .f32⟩

abbrev bufTy : (tb : Table) → Fin (tcTables nBuf tb) → BufTy
  | .hbm, ⟨i, _⟩ => hbmTy i
  | _, _ => ⟨S4x256x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst : Ref sig .tc := ⟨.hbm, 57, rfl⟩
abbrev main_v44 : Ref sig .tc := ⟨.hbm, 58, rfl⟩
abbrev main_v45 : Ref sig .tc := ⟨.hbm, 59, rfl⟩
abbrev main_cst_0 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_c : Ref sig .tc := ⟨.hbm, 77, rfl⟩
abbrev main_v62 : Ref sig .tc := ⟨.hbm, 78, rfl⟩
abbrev main_v63 : Ref sig .tc := ⟨.hbm, 79, rfl⟩
abbrev main_c_1 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_c_2 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_c_3 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_c_4 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_c_5 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_c_6 : Ref sig .tc := ⟨.hbm, 105, rfl⟩
abbrev main_call0_v0 : Ref sig .tc := ⟨.hbm, 106, rfl⟩
abbrev main_call0_v1 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_cst_7 : Ref sig .tc := ⟨.hbm, 112, rfl⟩
abbrev main_v88 : Ref sig .tc := ⟨.hbm, 113, rfl⟩
abbrev main_v89 : Ref sig .tc := ⟨.hbm, 114, rfl⟩
abbrev main_cst_8 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_cst_9 : Ref sig .tc := ⟨.hbm, 121, rfl⟩
abbrev main_v95 : Ref sig .tc := ⟨.hbm, 122, rfl⟩
abbrev main_v96 : Ref sig .tc := ⟨.hbm, 123, rfl⟩
abbrev main_cst_10 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_cst_11 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_cst_12 : Ref sig .tc := ⟨.hbm, 144, rfl⟩
abbrev main_v115 : Ref sig .tc := ⟨.hbm, 145, rfl⟩
abbrev main_v116 : Ref sig .tc := ⟨.hbm, 146, rfl⟩
abbrev main_cst_13 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_cst_14 : Ref sig .tc := ⟨.hbm, 152, rfl⟩
abbrev main_v121 : Ref sig .tc := ⟨.hbm, 153, rfl⟩
abbrev main_v122 : Ref sig .tc := ⟨.hbm, 154, rfl⟩
abbrev main_cst_15 : Ref sig .tc := ⟨.hbm, 155, rfl⟩
abbrev main_v123 : Ref sig .tc := ⟨.hbm, 156, rfl⟩
abbrev main_v124 : Ref sig .tc := ⟨.hbm, 157, rfl⟩
abbrev main_cst_16 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_cst_17 : Ref sig .tc := ⟨.hbm, 168, rfl⟩
abbrev main_v134 : Ref sig .tc := ⟨.hbm, 169, rfl⟩
abbrev main_v135 : Ref sig .tc := ⟨.hbm, 170, rfl⟩
abbrev main_cst_18 : Ref sig .tc := ⟨.hbm, 171, rfl⟩
abbrev main_v136 : Ref sig .tc := ⟨.hbm, 172, rfl⟩
abbrev main_v137 : Ref sig .tc := ⟨.hbm, 173, rfl⟩
abbrev main_cst_19 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_cst_20 : Ref sig .tc := ⟨.hbm, 182, rfl⟩
abbrev main_v145 : Ref sig .tc := ⟨.hbm, 183, rfl⟩
abbrev main_v146 : Ref sig .tc := ⟨.hbm, 184, rfl⟩
abbrev main_cst_21 : Ref sig .tc := ⟨.hbm, 185, rfl⟩
abbrev main_v147 : Ref sig .tc := ⟨.hbm, 186, rfl⟩
abbrev main_v148 : Ref sig .tc := ⟨.hbm, 187, rfl⟩
abbrev main_cst_22 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_cst_23 : Ref sig .tc := ⟨.hbm, 198, rfl⟩
abbrev main_v158 : Ref sig .tc := ⟨.hbm, 199, rfl⟩
abbrev main_v159 : Ref sig .tc := ⟨.hbm, 200, rfl⟩
abbrev main_cst_24 : Ref sig .tc := ⟨.hbm, 201, rfl⟩
abbrev main_v160 : Ref sig .tc := ⟨.hbm, 202, rfl⟩
abbrev main_v161 : Ref sig .tc := ⟨.hbm, 203, rfl⟩
abbrev main_cst_25 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_cst_26 : Ref sig .tc := ⟨.hbm, 213, rfl⟩
abbrev main_v170 : Ref sig .tc := ⟨.hbm, 214, rfl⟩
abbrev main_v171 : Ref sig .tc := ⟨.hbm, 215, rfl⟩
abbrev main_cst_27 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_cst_28 : Ref sig .tc := ⟨.hbm, 222, rfl⟩
abbrev main_v177 : Ref sig .tc := ⟨.hbm, 223, rfl⟩
abbrev main_v178 : Ref sig .tc := ⟨.hbm, 224, rfl⟩
abbrev main_cst_29 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_cst_30 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_v201 : Ref sig .tc := ⟨.hbm, 249, rfl⟩
abbrev main_cst_31 : Ref sig .tc := ⟨.hbm, 250, rfl⟩
abbrev main_call1_v0 : Ref sig .tc := ⟨.hbm, 251, rfl⟩
abbrev main_call1_v1 : Ref sig .tc := ⟨.hbm, 252, rfl⟩
abbrev main_v202 : Ref sig .tc := ⟨.hbm, 253, rfl⟩
abbrev main_cst_32 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_v206 : Ref sig .tc := ⟨.hbm, 258, rfl⟩
abbrev main_cst_33 : Ref sig .tc := ⟨.hbm, 259, rfl⟩
abbrev main_call2_v0 : Ref sig .tc := ⟨.hbm, 260, rfl⟩
abbrev main_v207 : Ref sig .tc := ⟨.hbm, 261, rfl⟩
abbrev main_v208 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_cst_34 : Ref sig .tc := ⟨.hbm, 266, rfl⟩
abbrev main_v212 : Ref sig .tc := ⟨.hbm, 267, rfl⟩
abbrev main_c_35 : Ref sig .tc := ⟨.hbm, 268, rfl⟩
abbrev main_v213 : Ref sig .tc := ⟨.hbm, 269, rfl⟩
abbrev main_v214 : Ref sig .tc := ⟨.hbm, 270, rfl⟩
abbrev main_c_36 : Ref sig .tc := ⟨.hbm, 271, rfl⟩
abbrev main_v215 : Ref sig .tc := ⟨.hbm, 272, rfl⟩
abbrev main_v216 : Ref sig .tc := ⟨.hbm, 273, rfl⟩
abbrev main_v217 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_v221 : Ref sig .tc := ⟨.hbm, 278, rfl⟩
abbrev main_c_37 : Ref sig .tc := ⟨.hbm, 279, rfl⟩
abbrev main_v222 : Ref sig .tc := ⟨.hbm, 280, rfl⟩
abbrev main_v223 : Ref sig .tc := ⟨.hbm, 281, rfl⟩
abbrev main_c_38 : Ref sig .tc := ⟨.hbm, 282, rfl⟩
abbrev main_v224 : Ref sig .tc := ⟨.hbm, 283, rfl⟩
abbrev main_v225 : Ref sig .tc := ⟨.hbm, 284, rfl⟩
abbrev main_v226 : Ref sig .tc := ⟨.hbm, 285, rfl⟩
abbrev main_v227 : Ref sig .tc := ⟨.hbm, 286, rfl⟩
abbrev main_v228 : Ref sig .tc := ⟨.hbm, 287, rfl⟩
abbrev main_cst_39 : Ref sig .tc := ⟨.hbm, 288, rfl⟩
abbrev main_call3_v0 : Ref sig .tc := ⟨.hbm, 289, rfl⟩
abbrev main_call3_v1 : Ref sig .tc := ⟨.hbm, 290, rfl⟩
abbrev main_v229 : Ref sig .tc := ⟨.hbm, 291, rfl⟩
abbrev main_v230 : Ref sig .tc := ⟨.hbm, 292, rfl⟩
abbrev main_v231 : Ref sig .tc := ⟨.hbm, 293, rfl⟩
abbrev main_cst_40 : Ref sig .tc := ⟨.hbm, 294, rfl⟩
abbrev main_v232 : Ref sig .tc := ⟨.hbm, 295, rfl⟩
abbrev main_c_41 : Ref sig .tc := ⟨.hbm, 296, rfl⟩
abbrev main_v233 : Ref sig .tc := ⟨.hbm, 297, rfl⟩
abbrev main_v234 : Ref sig .tc := ⟨.hbm, 298, rfl⟩
abbrev main_c_42 : Ref sig .tc := ⟨.hbm, 299, rfl⟩
abbrev main_v235 : Ref sig .tc := ⟨.hbm, 300, rfl⟩
abbrev main_v236 : Ref sig .tc := ⟨.hbm, 301, rfl⟩
abbrev main_v237 : Ref sig .tc := ⟨.hbm, 302, rfl⟩
abbrev main_v238 : Ref sig .tc := ⟨.hbm, 303, rfl⟩
abbrev main_v239 : Ref sig .tc := ⟨.hbm, 304, rfl⟩
abbrev main_v240 : Ref sig .tc := ⟨.hbm, 305, rfl⟩
abbrev main_v241 : Ref sig .tc := ⟨.hbm, 306, rfl⟩
abbrev main_v242 : Ref sig .tc := ⟨.hbm, 307, rfl⟩
abbrev main_cst_43 : Ref sig .tc := ⟨.hbm, 308, rfl⟩
abbrev main_v243 : Ref sig .tc := ⟨.hbm, 309, rfl⟩
abbrev main_v244 : Ref sig .tc := ⟨.hbm, 310, rfl⟩
abbrev main_v245 : Ref sig .tc := ⟨.hbm, 311, rfl⟩
abbrev main_v246 : Ref sig .tc := ⟨.hbm, 312, rfl⟩
abbrev main_v247 : Ref sig .tc := ⟨.hbm, 313, rfl⟩
abbrev main_v248 : Ref sig .tc := ⟨.hbm, 314, rfl⟩

abbrev nD : Nat := 1
abbrev τ : Topo := Topo.v7x

variable {F : FTy → Type} [FloatOps F]
-- ==== Proof.Consts.lean ====
/-
  The float words of the two programs as extended reals, and the upsampling weights in whole sixteenths.
-/
module

public import Idealize.ShloMosaic.PureOps.Ideal
public import Idealize.ShloMosaic.PureOps.Ideal.Laws
public import Idealize.ShloMosaic.Lib.IdealHost

@[expose] public section

set_option maxRecDepth 65536

noncomputable section

namespace Cert.Consts

open Idealize.ShloMosaic

/-- The float word of `n / 16`, for `n` up to sixteen. -/
def sixteenth (n : ℕ) : BitVec 32 :=
  match n with
  | 0 => 0x00000000#32 | 1 => 0x3D800000#32 | 2 => 0x3E000000#32 | 3 => 0x3E400000#32
  | 4 => 0x3E800000#32 | 5 => 0x3EA00000#32 | 6 => 0x3EC00000#32 | 7 => 0x3EE00000#32
  | 8 => 0x3F000000#32 | 9 => 0x3F100000#32 | 10 => 0x3F200000#32 | 11 => 0x3F300000#32
  | 12 => 0x3F400000#32 | 13 => 0x3F500000#32 | 14 => 0x3F600000#32 | 15 => 0x3F700000#32
  | _ => 0x3F800000#32

/-- Sixteen times the triangle kernel at output line `o` and input line `i`: 16 - |2o - 7 - 16i|, or zero. -/
def tri (o i : ℕ) : ℕ := 16 - Int.natAbs (2 * (o : ℤ) - 7 - 16 * (i : ℤ))

/-- Sixteen times the triangle kernel, summed over the input lines. -/
def triSum (o : ℕ) : ℕ := ∑ i : Fin 28, tri o i.val

/-- The sixteenths of an upsampling weight. -/
def weight16 (o i : ℕ) : ℕ := 16 * tri o i / triSum o

/-- No output line is out of reach of all input lines, and the weights are whole sixteenths. -/
theorem weight16_spec : ∀ (o : Fin 224) (i : Fin 28),
    triSum o.val ≠ 0 ∧ weight16 o.val i.val * triSum o.val = 16 * tri o.val i.val ∧ weight16 o.val i.val ≤ 16 := by
  decide +kernel

/-- The words of the sixteenths denote the sixteenths. -/
theorem sixteenth_eq (n : ℕ) (hn : n ≤ 16) : Ideal.ofBits .f32 (sixteenth n) = ((n / 16 : ℝ) : EReal) := by
  interval_cases n <;> simp [sixteenth, Ideal.ofBits, Ideal.ieee, -EReal.coe_mul] <;> norm_num

/-- This word is 1/4. -/
theorem word_quarter : Ideal.ofBits .f32 0x3E800000#32 = ((1 / 4 : ℝ) : EReal) := by
  simp [Ideal.ofBits, Ideal.ieee, -EReal.coe_mul]; norm_num

/-- This word is 1/2. -/
theorem word_half : Ideal.ofBits .f32 0x3F000000#32 = ((1 / 2 : ℝ) : EReal) := by
  simp [Ideal.ofBits, Ideal.ieee, -EReal.coe_mul]; norm_num

/-- This word is 1/8. -/
theorem word_eighth : Ideal.ofBits .f32 0x3E000000#32 = ((1 / 8 : ℝ) : EReal) := by
  simp [Ideal.ofBits, Ideal.ieee, -EReal.coe_mul]; norm_num

/-- This word is 128. -/
theorem word_128 : Ideal.ofBits .f32 0x43000000#32 = ((128 : ℝ) : EReal) := by
  simp [Ideal.ofBits, Ideal.ieee, -EReal.coe_mul]; norm_num

/-- This word is 3136. -/
theorem word_3136 : Ideal.ofBits .f32 0x45440000#32 = ((3136 : ℝ) : EReal) := by
  simp [Ideal.ofBits, Ideal.ieee, -EReal.coe_mul]; norm_num

/-- This word is 200. -/
theorem word_200 : Ideal.ofBits .f32 0x43480000#32 = ((200 : ℝ) : EReal) := by
  simp [Ideal.ofBits, Ideal.ieee, -EReal.coe_mul]; norm_num

/-- This word is -200. -/
theorem word_neg_200 : Ideal.ofBits .f32 0xC3480000#32 = ((-200 : ℝ) : EReal) := by
  simp [Ideal.ofBits, Ideal.ieee, -EReal.coe_mul]; norm_num

/-- This word is 2. -/
theorem word_2 : Ideal.ofBits .f32 0x40000000#32 = ((2 : ℝ) : EReal) := by
  simp [Ideal.ofBits, Ideal.ieee, -EReal.coe_mul]; norm_num

/-- The word added to a variance is a positive real. -/
theorem word_eps : ∃ e : ℝ, 0 < e ∧ Ideal.ofBits .f32 0x3727C5AC#32 = (e : EReal) := by
  refine ⟨_, ?_, by simp [Ideal.ofBits, Ideal.ieee, -EReal.coe_mul]; rfl⟩
  norm_num

/-- The floor of a weight sum is positive. -/
theorem word_floor_pos : 0 < Ideal.ofBits .f32 0x38D1B717#32 := by
  simp [Ideal.ofBits, Ideal.ieee, -EReal.coe_mul]

/-- The infinity of the precondition. -/
theorem word_inf : Ideal.ofBits .f32 0x7F800000#32 = ⊤ := by
  simp [Ideal.ofBits, Ideal.ieee]

end Cert.Consts

end
-- ==== Proof.Finite.lean ====
/-
The precondition, read over the extended reals.

`finite` says that every entry of the image, every convolution weight and the log temperature is below infinity in
absolute value; so each of them is a real number.
-/
module

public import proofs.«01_k».proof.Defs
public import proofs.«01_k».proof.Proof.Consts
public import Idealize.ShloMosaic.Lib.ReduceAll
public import Idealize.ShloMosaic.Lib.Affine

@[expose] public section

noncomputable section

namespace Cert.Pre_finite.Hand

open Idealize.ShloMosaic Idealize.SL.Sem
open Cert.Pre_finite

/-- The shape facts the predicate states. -/
theorem facts : Cert.Pre_finite.Facts where
  bcast_S_S4x256x28x28 := by decide
  reducesTo_S4x256x28x28_S_d0_1_2_3 := by decide
  h_S_ := by decide
  bcast_S_S128x256 := by decide
  reducesTo_S128x256_S_d0_1 := by decide

/-- A value whose absolute value compares below infinity is a real number. -/
theorem real_of_below (x : EReal) (h : FloatOps.cmpf (F := Ideal) (φ := .f32) .olt (max x (-x)) (Ideal.ofBits .f32 0x7F800000#32) = 1#1) :
    ∃ r : ℝ, x = r := by
  have h' : BitVec.ofBool (decide (max x (-x) < Ideal.ofBits .f32 0x7F800000#32)) = 1#1 := h
  rw [Cert.Consts.word_inf] at h'
  have hlt : max x (-x) < ⊤ := by
    by_contra hn
    rw [decide_eq_false hn] at h'
    exact absurd h' (by decide)
  refine ⟨x.toReal, (EReal.coe_toReal (ne_of_lt (lt_of_le_of_lt (le_max_left _ _) hlt)) ?_).symm⟩
  rintro rfl
  exact absurd (lt_of_le_of_lt (le_max_right _ _) hlt) (by simp)

/-- There is one index of a scalar. -/
instance one_index : Subsingleton S_.Idx := ⟨fun a b => funext fun t => t.elim0⟩

variable (x0 : Vec Ideal S4x256x28x28 .f32) (x1 : Vec Ideal S4x224x224 .f32) (x2 : Vec Ideal S4x3x3 .f32)
  (x3 : Vec Ideal S4x4x4 .f32) (x4 : Vec Ideal S4 .f32) (x5 : Vec Ideal S128x256 .f32) (x6 x7 : Vec Ideal S128 .f32)
  (x8 : Vec Ideal S_ .f32) (x9 x10 : Vec Ideal S128 .f32) (x11 : Vec Ideal S128x1 .f32) (x12 : Vec Ideal S1 .f32)

/-- Where the predicate is all ones, the image, the convolution weights and the log temperature are real numbers. -/
theorem reals [Cert.Pre_finite.Facts] (h : Cert.Pre_finite.fn (F := Ideal) x0 x1 x2 x3 x4 x5 x6 x7 x8 x9 x10 x11 x12 = fun _ => 1#1) :
    (∀ i, ∃ r : ℝ, x0 i = r) ∧ (∀ i, ∃ r : ℝ, x5 i = r) ∧ ∀ i, ∃ r : ℝ, x8 i = r := by
  have split : ∀ i : S_.Idx, _ := fun i => IntOp.andi_eq_one.1 (congrFun h i)
  refine ⟨fun i => ?_, fun i => ?_, fun i => ?_⟩
  · exact real_of_below _ (Host.reduce_andi_all _ _ _ _ _ (IntOp.andi_eq_one.1 (split fun t => t.elim0).1).1 i)
  · exact real_of_below _ (Host.reduce_andi_all _ _ _ _ _ (IntOp.andi_eq_one.1 (split fun t => t.elim0).1).2 i)
  · exact real_of_below _ (split i).2

end Cert.Pre_finite.Hand

end
-- ==== Proof.RunValue.lean ====
/-
The run of the kernel's program, with what its two results hold.

The launch is the generated frame's; the theorem adds, to the unchanged arguments, the contents of the two result
arrays at the last segment boundary.
-/
module

public import proofs.«01_k».proof.Proof.Gen.KernelIdeal.Frame

@[expose] public section

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution ends with the two results at the contents of the last boundary and the thirteen
    arguments as launched. -/
theorem run : θ_run defs (onTc (τ := τ) (main (F := Ideal))) ⟨m, fun _ => 0, ρ⟩ (fun r => ∀ c : Dev nD,
      r.2.mem ((c.tc : Thread nD τ).loc main_v91) = W16 m ρ c (Proc.devRef .tc main_v91)
      ∧ r.2.mem ((c.tc : Thread nD τ).loc main_v94) = W16 m ρ c (Proc.devRef .tc main_v94)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h hz c =>
      ⟨h c _ (mem_uc main_v91 (by decide)), h c _ (mem_uc main_v94 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c)⟩)

end Cert.KernelIdeal.RunValue

end
-- ==== Proof.Tables.lean ====
/-
  The kernel's three literal tables, entry by entry: the two upsampling matrices hold the words of the weights, the
  group-averaging matrix a quarter within a group of four channels and zero elsewhere.
-/
module

public import proofs.«01_k».proof.KernelIdeal
public import proofs.«01_k».proof.Proof.Consts

@[expose] public section

set_option maxRecDepth 65536

noncomputable section

namespace Cert.Consts

open Idealize.ShloMosaic Cert.KernelIdeal

/-- The row-upsampling table holds the words of the weights, -/
theorem lit1_word : ∀ (o : Fin 224) (i : Fin 28),
    lit1 ⟨o.val * 28 + i.val, by omega⟩ = sixteenth (weight16 o.val i.val) := by decide +kernel

/-- and so does the column-upsampling table. -/
theorem lit2_word : ∀ (o : Fin 224) (i : Fin 28),
    lit2 ⟨o.val * 28 + i.val, by omega⟩ = sixteenth (weight16 o.val i.val) := by decide +kernel

/-- The group-averaging table: a quarter where the two channels are of one group of four, else zero. -/
theorem lit0_word : ∀ (a b : Fin 128),
    lit0 ⟨a.val * 128 + b.val, by omega⟩ = if a.val / 4 = b.val / 4 then 0x3E800000#32 else 0x00000000#32 := by
  decide +kernel

end Cert.Consts

end
-- ==== Proof.Rows.lean ====
/-
  What one image row of the feature kernel computes, written once.

  The kernel handles eight image rows at a grid point, one after the other, with the same arithmetic. This file
  writes that arithmetic down once as a function of the row's data: the row's features (`featRow`), its attention
  logit (`logitRow`), the two voxel coordinates of its pixels (`voxXRow`, `voxYRow`), whether a pixel falls inside
  the grid (`insideRow`), that as a float (`validRow`), and the flat voxel number (`binRow`).
-/
module

public import proofs.«01_k».proof.Proof.Gen.KernelIdeal.Skeleton

@[expose] public section

set_option maxRecDepth 16384

noncomputable section

namespace Cert.KernelIdeal.Rows

open Idealize.ShloMosaic Idealize.ShloMosaic.TcCoe
open Cert.KernelIdeal Cert.KernelIdeal.Gen

variable {F : FTy → Type} [FloatOps F] [Named F]

/-- The row's features: the column-upsampling matrix times the row. -/
def feats (cup : Vec F S224x28 .f32) (row : Vec F S1x1x28x128 .f32) : FVec F S224x128 .f32 :=
  matmul dot_S224x28_S28x128_S224x128_1_0_0_1_n_n none cup
    (shapeCast S28x128 row shapeCasts_S1x1x28x128_S28x128) (constant S224x128 .f32 0x00000000#32)

/-- The row's features as they are stored. -/
def featRow (cup : Vec F S224x28 .f32) (row : Vec F S1x1x28x128 .f32) : FVec F S1x1x224x128 .f32 :=
  shapeCast S1x1x224x128 (feats cup row) shapeCasts_S224x128_S1x1x224x128

/-- The mean over the 128 channels of each pixel. -/
def chanMean (f : FVec F S224x128 .f32) : FVec F S224x1 .f32 :=
  divf (shapeCast S224x1 (multiReduction .add [1] S224 f 0x00000000#32 reduces_S224x128_S224 (.inl rfl) rfl)
    shapeCasts_S224_S224x1) (broadcast S224x1 (Scalar.ofBits .f32 0x43000000#32))

/-- Each pixel's features with their mean taken off. -/
def centred (f : FVec F S224x128 .f32) : FVec F S224x128 .f32 :=
  subf f (broadcastTo S224x128 (chanMean f) broadcasts_S224x1_S224x128)

/-- A [1, 128] parameter laid over the pixels. -/
def overRow (g : Vec F S1x128 .f32) : FVec F S224x128 .f32 :=
  broadcastTo S224x128 (shapeCast S1x128 g shapeCasts_S1x128_S1x128) broadcasts_S1x128_S224x128

/-- The normalised features of each pixel. -/
def normed (f : FVec F S224x128 .f32) (g b : Vec F S1x128 .f32) : FVec F S224x128 .f32 :=
  addf (mulf (mulf (centred f) (broadcastTo S224x128 (rsqrt (addf (chanMean (mulf (centred f) (centred f)))
    (broadcast S224x1 (Scalar.ofBits .f32 0x3727C5AC#32)))) broadcasts_S224x1_S224x128)) (overRow g)) (overRow b)

/-- The attention logit of each pixel: the normalised features against the attention weights, the bias added,
    scaled by the inverse temperature. -/
def logitRow (p : FVec F S16 .f32) (f : FVec F S224x128 .f32) (g b w : Vec F S1x128 .f32) : FVec F S1x1x224x1 .f32 :=
  shapeCast S1x1x224x1
    (mulf (addf (shapeCast S224x1 (multiReduction .add [1] S224 (mulf (normed f g b) (overRow w)) 0x00000000#32
      reduces_S224x128_S224 (.inl rfl) rfl) shapeCasts_S224_S224x1)
      (broadcast S224x1 (extractAt ![0] (extractStridedSlice S1 ![14] p slices_S16_o14_S1) inpos_S1_p0)))
      (broadcast S224x1 (extractAt ![0] (extractStridedSlice S1 ![15] p slices_S16_o15_S1) inpos_S1_p0)))
    shapeCasts_S224x1_S1x1x224x1

/-- Rounded to bfloat16 and widened again, a row of pixels. -/
def thin (x : FVec F S1x224 .f32) : FVec F S1x224 .f32 :=
  extf .f32 (truncf .bf16 x bitsLt_bf16_f32) bitsLt_bf16_f32

/-- Rounded to bfloat16 and widened again, one number. -/
def thin1 (x : F .f32) : F .f32 := Scalar.extf .f32 bitsLt_bf16_f32 (Scalar.truncf .bf16 bitsLt_bf16_f32 x)

/-- The camera's x coordinate of each pixel of the row. -/
def camX (p : FVec F S16 .f32) (d : FVec F S1x224 .f32) : FVec F S1x224 .f32 :=
  thin (divf (mulf (subf (sitofp .f32 (iota .tc S1x224 32 [1] iota_S1x224_d1_w32))
    (broadcast S1x224 (extractAt ![0] (extractStridedSlice S1 ![2] p slices_S16_o2_S1) inpos_S1_p0))) d)
    (broadcast S1x224 (extractAt ![0] (extractStridedSlice S1 ![0] p slices_S16_o0_S1) inpos_S1_p0)))

/-- The camera's y coordinate of each pixel, `r` the number of the image row. -/
def camY (p : FVec F S16 .f32) (d : FVec F S1x224 .f32) (r : BitVec 32) : FVec F S1x224 .f32 :=
  thin (divf (mulf (broadcast S1x224 (Scalar.subf (Scalar.sitofp .f32 r)
    (extractAt ![0] (extractStridedSlice S1 ![3] p slices_S16_o3_S1) inpos_S1_p0))) d)
    (broadcast S1x224 (extractAt ![0] (extractStridedSlice S1 ![1] p slices_S16_o1_S1) inpos_S1_p0)))

/-- The east coordinate of each pixel. -/
def east (p : FVec F S16 .f32) (d : FVec F S1x224 .f32) (r : BitVec 32) : FVec F S1x224 .f32 :=
  addf (addf (addf
    (mulf (broadcast S1x224 (thin1 (extractAt ![0] (extractStridedSlice S1 ![4] p slices_S16_o4_S1) inpos_S1_p0))) (camX p d))
    (mulf (broadcast S1x224 (thin1 (extractAt ![0] (extractStridedSlice S1 ![5] p slices_S16_o5_S1) inpos_S1_p0))) (camY p d r)))
    (mulf (broadcast S1x224 (thin1 (extractAt ![0] (extractStridedSlice S1 ![6] p slices_S16_o6_S1) inpos_S1_p0))) (thin d)))
    (broadcast S1x224 (extractAt ![0] (extractStridedSlice S1 ![10] p slices_S16_o10_S1) inpos_S1_p0))

/-- The north coordinate of each pixel. -/
def north (p : FVec F S16 .f32) (d : FVec F S1x224 .f32) (r : BitVec 32) : FVec F S1x224 .f32 :=
  addf (addf (addf
    (mulf (broadcast S1x224 (thin1 (extractAt ![0] (extractStridedSlice S1 ![7] p slices_S16_o7_S1) inpos_S1_p0))) (camX p d))
    (mulf (broadcast S1x224 (thin1 (extractAt ![0] (extractStridedSlice S1 ![8] p slices_S16_o8_S1) inpos_S1_p0))) (camY p d r)))
    (mulf (broadcast S1x224 (thin1 (extractAt ![0] (extractStridedSlice S1 ![9] p slices_S16_o9_S1) inpos_S1_p0))) (thin d)))
    (broadcast S1x224 (extractAt ![0] (extractStridedSlice S1 ![11] p slices_S16_o11_S1) inpos_S1_p0))

/-- The size of a voxel. -/
def cell (p : FVec F S16 .f32) : F .f32 :=
  extractAt ![0] (extractStridedSlice S1 ![12] p slices_S16_o12_S1) inpos_S1_p0

/-- The voxel's first coordinate for each pixel. -/
def voxXRow (p : FVec F S16 .f32) (d : FVec F S1x224 .f32) (r : BitVec 32) : IVec S1x224 32 :=
  fptosi 32 (floor (divf (east p d r) (broadcast S1x224 (cell p))))

/-- The voxel's second coordinate for each pixel. -/
def voxYRow (p : FVec F S16 .f32) (d : FVec F S1x224 .f32) (r : BitVec 32) : IVec S1x224 32 :=
  fptosi 32 (floor (divf (subf (north p d r) (broadcast S1x224 (Scalar.divf (Scalar.subf (Scalar.ofBits .f32 0x00000000#32)
    (Scalar.mulf (Scalar.ofBits .f32 0x43480000#32) (cell p))) (Scalar.ofBits .f32 0x40000000#32))))
    (broadcast S1x224 (cell p))))

/-- Whether the voxel lies in the 200 by 200 grid. -/
def insideRow (p : FVec F S16 .f32) (d : FVec F S1x224 .f32) (r : BitVec 32) : IVec S1x224 1 :=
  andi (andi (andi (cmpi .sge (voxXRow p d r) (broadcast S1x224 0#32)) (cmpi .slt (voxXRow p d r) (broadcast S1x224 200#32)))
    (cmpi .sge (voxYRow p d r) (broadcast S1x224 0#32))) (cmpi .slt (voxYRow p d r) (broadcast S1x224 200#32))

/-- The same as a float, as it is stored. -/
def validRow (p : FVec F S16 .f32) (d : FVec F S1x224 .f32) (r : BitVec 32) : FVec F S1x1x224 .f32 :=
  shapeCast S1x1x224 (sitofp .f32 (extui 32 (insideRow p d r) natLt_1_32)) shapeCasts_S1x224_S1x1x224

/-- The voxel's number in the flat grid of all images (`b` the image), zero for a pixel outside. -/
def binRow (p : FVec F S16 .f32) (d : FVec F S1x224 .f32) (b r : BitVec 32) : IVec S1x1x224 32 :=
  shapeCast S1x1x224 (select (insideRow p d r)
    (addi (addi (muli (voxXRow p d r) (broadcast S1x224 200#32)) (voxYRow p d r)) (broadcast S1x224 (Scalar.muli b 40000#32)))
    (broadcast S1x224 0#32)) shapeCasts_S1x224_S1x1x224

end Cert.KernelIdeal.Rows

end
-- ==== Proof.Pixel.lean ====
/-
  What the feature kernel computes for one pixel, in extended reals and 32-bit words.

  `logitOf` is the attention logit from the pixel's 128 features; `camX`, `camY` are its camera coordinates, `voxX`,
  `voxY` its voxel, `inside` whether that voxel lies in the grid and `bin` its number in the flat grid. The theorems
  say that each row of `Rows.lean` holds these numbers pixel by pixel.
-/
module

public import proofs.«01_k».proof.Proof.Rows
public import Idealize.ShloMosaic.Lib.Pointwise

@[expose] public section

set_option maxRecDepth 16384

noncomputable section

namespace Cert.KernelIdeal.Pixel

open Idealize.ShloMosaic Idealize.ShloMosaic.TcCoe
open Cert.KernelIdeal Cert.KernelIdeal.Gen

/-- The mean of 128 numbers. -/
def mean (f : Fin 128 → EReal) : EReal := Ideal.div (∑ c, f c) (Ideal.ofBits .f32 0x43000000#32)

/-- Their variance. -/
def var (f : Fin 128 → EReal) : EReal := mean fun c => (f c - mean f) * (f c - mean f)

/-- The logit: normalised features against the weights, plus the bias `a`, times the inverse temperature `t`. -/
def logitOf (f g b w : Fin 128 → EReal) (a t : EReal) : EReal :=
  (∑ c, ((f c - mean f) * Ideal.rsqrt (var f + Ideal.ofBits .f32 0x3727C5AC#32) * g c + b c) * w c + a) * t

/-- The camera's x coordinate of a pixel in column `X` at depth `d`. -/
def camX (p : Fin 16 → EReal) (d : EReal) (X : BitVec 32) : EReal :=
  Ideal.div ((((X.toInt : ℝ) : EReal) - p 2) * d) (p 0)

/-- The camera's y coordinate of a pixel in row `Y` at depth `d`. -/
def camY (p : Fin 16 → EReal) (d : EReal) (Y : BitVec 32) : EReal :=
  Ideal.div ((((Y.toInt : ℝ) : EReal) - p 3) * d) (p 1)

/-- The voxel's first coordinate. -/
def voxX (p : Fin 16 → EReal) (d : EReal) (X Y : BitVec 32) : BitVec 32 :=
  FloatOps.fptosi (F := Ideal) (φ := .f32) 32 (Ideal.liftRound Int.floor
    (Ideal.div (p 4 * camX p d X + p 5 * camY p d Y + p 6 * d + p 10) (p 12)))

/-- The voxel's second coordinate. -/
def voxY (p : Fin 16 → EReal) (d : EReal) (X Y : BitVec 32) : BitVec 32 :=
  FloatOps.fptosi (F := Ideal) (φ := .f32) 32 (Ideal.liftRound Int.floor
    (Ideal.div (p 7 * camX p d X + p 8 * camY p d Y + p 9 * d + p 11
      - Ideal.div (0 - Ideal.ofBits .f32 0x43480000#32 * p 12) (Ideal.ofBits .f32 0x40000000#32)) (p 12)))

/-- Whether a voxel lies in the 200 by 200 grid. -/
def inGrid (vx vy : BitVec 32) : BitVec 1 :=
  IntOp.andi (IntOp.andi (IntOp.andi (IntOp.cmpi .sge vx 0#32) (IntOp.cmpi .slt vx 200#32)) (IntOp.cmpi .sge vy 0#32))
    (IntOp.cmpi .slt vy 200#32)

/-- The voxel's number in the flat grid of all images, `b` the image, zero outside. -/
def bin (vx vy b : BitVec 32) : BitVec 32 :=
  if inGrid vx vy = 1 then vx * 200#32 + vy + b * 40000#32 else 0#32

/-- Whether a pixel's voxel lies in the grid, as a float. -/
def validAt (p : Fin 16 → EReal) (d : EReal) (X Y : BitVec 32) : EReal :=
  FloatOps.sitofp (F := Ideal) .f32 (BitVec.setWidth 32 (inGrid (voxX p d X Y) (voxY p d X Y)))

/-- The number of a pixel's voxel, `b` the image. -/
def binAt (p : Fin 16 → EReal) (d : EReal) (X Y b : BitVec 32) : BitVec 32 := bin (voxX p d X Y) (voxY p d X Y) b

/-- A row of logits, read at a pixel. -/
theorem logitRow_at (p : FVec Ideal S16 .f32) (f : FVec Ideal S224x128 .f32) (g b w : Vec Ideal S1x128 .f32) (z : Fin 224) :
    Rows.logitRow (F := Ideal) p f g b w (ix4 0 0 z 0)
      = logitOf (fun c => f (ix2 z c)) (fun c => g (ix2 0 c)) (fun c => b (ix2 0 c)) (fun c => w (ix2 0 c)) (p (ix1 14)) (p (ix1 15)) := by
  pointwise [Rows.logitRow, Rows.normed, Rows.centred, Rows.chanMean, Rows.overRow]
  rfl

/-- A row of first voxel coordinates, read at a pixel. -/
theorem voxXRow_at (p : FVec Ideal S16 .f32) (d : FVec Ideal S1x224 .f32) (r : BitVec 32) (z : Fin 224) :
    Rows.voxXRow (F := Ideal) p d r (ix2 0 z) = voxX (fun k => p (ix1 k)) (d (ix2 0 z)) (BitVec.ofNat 32 z) r := by
  pointwise [Rows.voxXRow, Rows.east, Rows.camX, Rows.camY, Rows.thin, Rows.thin1, Rows.cell]
  rfl

/-- A row of second voxel coordinates, read at a pixel. -/
theorem voxYRow_at (p : FVec Ideal S16 .f32) (d : FVec Ideal S1x224 .f32) (r : BitVec 32) (z : Fin 224) :
    Rows.voxYRow (F := Ideal) p d r (ix2 0 z) = voxY (fun k => p (ix1 k)) (d (ix2 0 z)) (BitVec.ofNat 32 z) r := by
  pointwise [Rows.voxYRow, Rows.north, Rows.camX, Rows.camY, Rows.thin, Rows.thin1, Rows.cell]
  rfl

/-- A row of tests that a pixel falls inside the grid, read at a pixel. -/
theorem insideRow_at (p : FVec Ideal S16 .f32) (d : FVec Ideal S1x224 .f32) (r : BitVec 32) (z : Fin 224) :
    Rows.insideRow (F := Ideal) p d r (ix2 0 z) = inGrid (voxX (fun k => p (ix1 k)) (d (ix2 0 z)) (BitVec.ofNat 32 z) r)
      (voxY (fun k => p (ix1 k)) (d (ix2 0 z)) (BitVec.ofNat 32 z) r) := by
  rw [← voxXRow_at, ← voxYRow_at]
  rfl

/-- A row of flags, read at a pixel. -/
theorem validRow_at (p : FVec Ideal S16 .f32) (d : FVec Ideal S1x224 .f32) (r : BitVec 32) (z : Fin 224) :
    Rows.validRow (F := Ideal) p d r (ix3 0 0 z) = validAt (fun k => p (ix1 k)) (d (ix2 0 z)) (BitVec.ofNat 32 z) r := by
  rw [validAt, ← insideRow_at]
  pointwise [Rows.validRow]
  first | done | rfl

/-- A row of voxel numbers, read at a pixel. -/
theorem binRow_at (p : FVec Ideal S16 .f32) (d : FVec Ideal S1x224 .f32) (b r : BitVec 32) (z : Fin 224) :
    Rows.binRow (F := Ideal) p d b r (ix3 0 0 z) = binAt (fun k => p (ix1 k)) (d (ix2 0 z)) (BitVec.ofNat 32 z) r b := by
  rw [binAt, bin, ← insideRow_at, ← voxXRow_at, ← voxYRow_at]
  pointwise [Rows.binRow]
  first | done | rfl

end Cert.KernelIdeal.Pixel

end
-- ==== Proof.Geometry.lean ====
/-
  The reference's voxels are the kernel's.

  The reference computes every pixel's camera point, turns it with the camera's rotation, adds the translation and
  divides by the voxel size. `params` lists the sixteen numbers of an image the kernel reads; with them the reference's
  voxel coordinates, its flags and its voxel numbers are `Pixel.voxX`, `Pixel.voxY`, `Pixel.inGrid` and `Pixel.bin`.
-/
module

public import proofs.«01_k».proof.Proof.Gen.ReferenceIdeal.Read
public import proofs.«01_k».proof.Proof.Pixel
public import proofs.«01_k».proof.Proof.Consts
public import Idealize.ShloMosaic.Lib.Pointwise

@[expose] public section

set_option maxHeartbeats 4000000
set_option maxRecDepth 16384

noncomputable section

namespace Cert.ReferenceIdeal.Geometry

open Idealize.ShloMosaic Idealize.ShloMosaic.TcCoe
open Cert.ReferenceIdeal Cert.ReferenceIdeal.Read
open Cert.KernelIdeal.Pixel

variable (x1 : Vec Ideal S4x224x224 .f32) (x2 : Vec Ideal S4x3x3 .f32) (x3 : Vec Ideal S4x4x4 .f32) (x4 : Vec Ideal S4 .f32)
  (x8 : Vec Ideal S_ .f32) (x12 : Vec Ideal S1 .f32)

/-- The sixteen numbers of image `b` the kernel reads: the focal lengths and centre, the first two rows of the
    rotation, the translation, the voxel size, a zero, the attention bias and the inverse temperature. -/
def params (b : Fin 4) : Fin 16 → EReal :=
  ![x2 (ix3 b 0 0), x2 (ix3 b 1 1), x2 (ix3 b 0 2), x2 (ix3 b 1 2), x3 (ix3 b 0 0), x3 (ix3 b 0 1), x3 (ix3 b 0 2),
    x3 (ix3 b 1 0), x3 (ix3 b 1 1), x3 (ix3 b 1 2), x3 (ix3 b 0 3), x3 (ix3 b 1 3), x4 (ix1 b), 0, x12 (ix1 0),
    Ideal.exp (-(x8 ix0))]

/-- The camera's x coordinates. -/
theorem camera_x (b : Fin 4) (Y X : Fin 224) : val_main_v18 (F := Ideal) x1 x2 (ix3 b Y X)
    = camX (params x2 x3 x4 x8 x12 b) (x1 (ix3 b Y X)) (BitVec.ofNat 32 X) := by
  pointwise [val_main_v18, val_main_v17, val_main_v16, val_main_v15, val_main_v14, val_main_v13, val_main_v12, val_main_v11, val_main_v10, val_main_v9, val_main_v8, val_main_v5, val_main_v4, val_main_v3, val_main_v0]
  rfl

/-- The camera's y coordinates. -/
theorem camera_y (b : Fin 4) (Y X : Fin 224) : val_main_v29 (F := Ideal) x1 x2 (ix3 b Y X)
    = camY (params x2 x3 x4 x8 x12 b) (x1 (ix3 b Y X)) (BitVec.ofNat 32 Y) := by
  pointwise [val_main_v29, val_main_v28, val_main_v27, val_main_v26, val_main_v25, val_main_v24, val_main_v23, val_main_v22, val_main_v21, val_main_v20, val_main_v19, val_main_v7, val_main_v6, val_main_v2, val_main_v1]
  rfl

/-- The row and the column of pixel `n` of an image. -/
def rowAt (n : Fin 50176) : Fin 224 := ⟨n.val / 224, by omega⟩
/-- The column of a pixel of an image. -/
def colAt (n : Fin 50176) : Fin 224 := ⟨n.val % 224, by omega⟩

/-- The three coordinates of the camera points. -/
theorem point (b : Fin 4) (n : Fin 50176) :
    val_main_v34 (F := Ideal) x1 x2 (ix3 b n 0) = camX (params x2 x3 x4 x8 x12 b) (x1 (ix3 b (rowAt n) (colAt n))) (BitVec.ofNat 32 (colAt n)) ∧
    val_main_v34 (F := Ideal) x1 x2 (ix3 b n 1) = camY (params x2 x3 x4 x8 x12 b) (x1 (ix3 b (rowAt n) (colAt n))) (BitVec.ofNat 32 (rowAt n)) ∧
    val_main_v34 (F := Ideal) x1 x2 (ix3 b n 2) = x1 (ix3 b (rowAt n) (colAt n)) := by
  refine ⟨?_, ?_, ?_⟩
  · rw [← camera_x]
    pointwise [val_main_v34, val_main_v33, val_main_v32, val_main_v31, val_main_v30]
    rfl
  · rw [← camera_y]
    pointwise [val_main_v34, val_main_v33, val_main_v32, val_main_v31, val_main_v30]
    rfl
  · pointwise [val_main_v34, val_main_v33, val_main_v32, val_main_v31, val_main_v30]
    rfl

/-- The points in the world: the rotated camera point plus the translation. -/
theorem world (b : Fin 4) (n : Fin 50176) (j : Fin 3) : val_main_v42 (F := Ideal) x1 x2 x3 (ix3 b n j)
    = x3 (ix3 b ⟨j.val, by omega⟩ 0) * camX (params x2 x3 x4 x8 x12 b) (x1 (ix3 b (rowAt n) (colAt n))) (BitVec.ofNat 32 (colAt n))
      + x3 (ix3 b ⟨j.val, by omega⟩ 1) * camY (params x2 x3 x4 x8 x12 b) (x1 (ix3 b (rowAt n) (colAt n))) (BitVec.ofNat 32 (rowAt n))
      + x3 (ix3 b ⟨j.val, by omega⟩ 2) * x1 (ix3 b (rowAt n) (colAt n)) + x3 (ix3 b ⟨j.val, by omega⟩ 3) := by
  obtain ⟨h0, h1, h2⟩ := point x1 x2 x3 x4 x8 x12 b n
  pointwise [val_main_v42, val_main_v37, val_main_v36, val_main_v35, val_main_v38, val_main_v39, val_main_v40, val_main_v41]
  rw [Fin.sum_univ_three, h0, h1, h2]
  rw [mul_comm (camX _ _ _), mul_comm (camY _ _ _), mul_comm (x1 _)]
  rfl

/-- The lower edge of the grid, as each side writes it. -/
theorem lower_edge (r : EReal) : Ideal.ofBits .f32 0xC3480000#32 * r = 0 - Ideal.ofBits .f32 0x43480000#32 * r := by
  rw [Consts.word_200, Consts.word_neg_200, zero_sub, ← EReal.neg_mul]
  rfl

/-- The voxels' first coordinates. -/
theorem voxel_x (b : Fin 4) (n : Fin 50176) : val_main_v53 (F := Ideal) x1 x2 x3 x4 (ix2 b n)
    = voxX (params x2 x3 x4 x8 x12 b) (x1 (ix3 b (rowAt n) (colAt n))) (BitVec.ofNat 32 (colAt n)) (BitVec.ofNat 32 (rowAt n)) := by
  pointwise [val_main_v53, val_main_v52, val_main_v51, val_main_v50, val_main_v49, val_main_v48, val_main_v43]
  rw [world x1 x2 x3 x4 x8 x12]
  rfl

/-- The voxels' second coordinates. -/
theorem voxel_y (b : Fin 4) (n : Fin 50176) : val_main_v61 (F := Ideal) x1 x2 x3 x4 (ix2 b n)
    = voxY (params x2 x3 x4 x8 x12 b) (x1 (ix3 b (rowAt n) (colAt n))) (BitVec.ofNat 32 (colAt n)) (BitVec.ofNat 32 (rowAt n)) := by
  pointwise [val_main_v61, val_main_v60, val_main_v59, val_main_v58, val_main_v57, val_main_v56, val_main_v55, val_main_v54, val_main_v43, val_main_v44, val_main_v45, val_main_v46, val_main_v47, val_main_cst, val_main_cst_0]
  rw [world x1 x2 x3 x4 x8 x12, lower_edge]
  rfl

/-- The image and the pixel in it of pixel `N` of all images. -/
def imageAt (N : Fin 200704) : Fin 4 := ⟨N.val / 50176, by omega⟩
/-- The pixel, within its image, of a pixel of the batch. -/
def pixelAt (N : Fin 200704) : Fin 50176 := ⟨N.val % 50176, by omega⟩

/-- The flags. -/
theorem flag (N : Fin 200704) : val_main_v82 (F := Ideal) x1 x2 x3 x4 (ix1 N) = inGrid
    (voxX (params x2 x3 x4 x8 x12 (imageAt N)) (x1 (ix3 (imageAt N) (rowAt (pixelAt N)) (colAt (pixelAt N)))) (BitVec.ofNat 32 (colAt (pixelAt N))) (BitVec.ofNat 32 (rowAt (pixelAt N))))
    (voxY (params x2 x3 x4 x8 x12 (imageAt N)) (x1 (ix3 (imageAt N) (rowAt (pixelAt N)) (colAt (pixelAt N)))) (BitVec.ofNat 32 (colAt (pixelAt N))) (BitVec.ofNat 32 (rowAt (pixelAt N)))) := by
  rw [← voxel_x, ← voxel_y]
  pointwise [val_main_v82, val_main_v72, val_main_v71, val_main_v70, val_main_v69, val_main_v68, val_main_v67, val_main_v66, val_main_v65, val_main_v64, val_main_v63, val_main_v62, val_main_c_1, val_main_c_2, val_main_c_3, val_main_c]
  rfl

/-- The voxel numbers. -/
theorem number (N : Fin 200704) : val_main_v84 (F := Ideal) x1 x2 x3 x4 (ix1 N) = binAt
    (params x2 x3 x4 x8 x12 (imageAt N)) (x1 (ix3 (imageAt N) (rowAt (pixelAt N)) (colAt (pixelAt N)))) (BitVec.ofNat 32 (colAt (pixelAt N))) (BitVec.ofNat 32 (rowAt (pixelAt N))) (BitVec.ofNat 32 (imageAt N)) := by
  rw [binAt, bin, ← flag, ← voxel_x, ← voxel_y]
  pointwise [val_main_v84, val_main_call0_v1, val_main_call0_v0, val_main_c_6, val_main_v83, val_main_v81, val_main_v80, val_main_v79, val_main_v78, val_main_v77, val_main_c_5, val_main_v76, val_main_v75, val_main_v74, val_main_v73, val_main_c_4]
  rfl

end Cert.ReferenceIdeal.Geometry

end
-- ==== Proof.Pieces.lean ====
/-
  What the feature kernel stores at one grid point: each of its four output buffers is written in eight pieces, one per
  image row, and every piece is the row arithmetic of `Rows.lean`.
-/
module

public import proofs.«01_k».proof.Proof.Gen.KernelIdeal.Frame
public import proofs.«01_k».proof.Proof.Rows
public import Idealize.ShloMosaic.Lib.Pipeline.ValueKit
public import Idealize.ShloMosaic.Lib.Pointwise

@[expose] public section

set_option maxRecDepth 16384

noncomputable section

namespace Cert.KernelIdeal.Pieces

open Idealize.ShloMosaic Idealize.ShloMosaic.TcCoe Idealize.SL.Sem
open Cert.KernelIdeal Cert.KernelIdeal.Gen Cert.KernelIdeal.Rows

variable {F : FTy → Type} [FloatOps F] [Named F]

/-- The number of the image a grid point belongs to, as the kernel computes it: the point's number divided by 28,
    rounded down. -/
def imageWord (n : BitVec 32) : BitVec 32 :=
  Scalar.select (Scalar.andi (Scalar.cmpi .ne (Scalar.subi (Scalar.extui (Scalar.cmpi .sgt n 0#32))
    (Scalar.extui (Scalar.cmpi .slt n 0#32))) (Scalar.subi (Scalar.extui (Scalar.cmpi .sgt 28#32 0#32))
    (Scalar.extui (Scalar.cmpi .slt 28#32 0#32)))) (Scalar.cmpi .ne (Scalar.remsi n 28#32) 0#32))
    (Scalar.subi (Scalar.divsi n 28#32) 1#32) (Scalar.divsi n 28#32)

/-- The number of image row `y` of the block of rows a grid point handles. -/
def rowWord (n y : BitVec 32) : BitVec 32 :=
  Scalar.addi (Scalar.muli (Scalar.subi n (Scalar.muli (imageWord n) 28#32)) 8#32) y

variable (i : grid2.Coords) (x0 : Vec F S1x8x28x128 .f32) (x1 : Vec F S224x28 .f32) (x2 : Vec F S1x8x224 .f32)
  (x3 : Vec F S1x1x16 .f32) (x4 x5 x6 : Vec F S1x128 .f32)

/-- The parameters of the image. -/
def params (x3 : Vec F S1x1x16 .f32) : FVec F S16 .f32 := shapeCast S16 (View.ld x3 r2_0) shapeCasts_S1x1x16_S16

/-- A row of depths as the arithmetic wants it. -/
def depths (d : Vec F S1x1x224 .f32) : FVec F S1x224 .f32 := shapeCast S1x224 d shapeCasts_S1x1x224_S1x224

/-- The feature buffer: one piece per row, each the row's features. -/
theorem feat_pieces : out2_7 i x0 x1 x2 x3 x4 x5 x6 =
    View.canon [⟨r2_32, featRow (View.ld x1 r2_1) (View.ld x0 r2_31)⟩,
      ⟨r2_28, featRow (View.ld x1 r2_1) (View.ld x0 r2_27)⟩,
      ⟨r2_24, featRow (View.ld x1 r2_1) (View.ld x0 r2_23)⟩,
      ⟨r2_20, featRow (View.ld x1 r2_1) (View.ld x0 r2_19)⟩,
      ⟨r2_16, featRow (View.ld x1 r2_1) (View.ld x0 r2_15)⟩,
      ⟨r2_12, featRow (View.ld x1 r2_1) (View.ld x0 r2_11)⟩,
      ⟨r2_8, featRow (View.ld x1 r2_1) (View.ld x0 r2_7)⟩,
      ⟨r2_3, featRow (View.ld x1 r2_1) (View.ld x0 r2_2)⟩] := rfl

/-- The logit buffer: one piece per row, each the row's logits. -/
theorem logit_pieces : out2_8 i x0 x1 x2 x3 x4 x5 x6 =
    View.canon [⟨r2_33, logitRow (params x3) (feats (View.ld x1 r2_1) (View.ld x0 r2_31)) (View.ld x4 r2_4) (View.ld x5 r2_4) (View.ld x6 r2_4)⟩,
      ⟨r2_29, logitRow (params x3) (feats (View.ld x1 r2_1) (View.ld x0 r2_27)) (View.ld x4 r2_4) (View.ld x5 r2_4) (View.ld x6 r2_4)⟩,
      ⟨r2_25, logitRow (params x3) (feats (View.ld x1 r2_1) (View.ld x0 r2_23)) (View.ld x4 r2_4) (View.ld x5 r2_4) (View.ld x6 r2_4)⟩,
      ⟨r2_21, logitRow (params x3) (feats (View.ld x1 r2_1) (View.ld x0 r2_19)) (View.ld x4 r2_4) (View.ld x5 r2_4) (View.ld x6 r2_4)⟩,
      ⟨r2_17, logitRow (params x3) (feats (View.ld x1 r2_1) (View.ld x0 r2_15)) (View.ld x4 r2_4) (View.ld x5 r2_4) (View.ld x6 r2_4)⟩,
      ⟨r2_13, logitRow (params x3) (feats (View.ld x1 r2_1) (View.ld x0 r2_11)) (View.ld x4 r2_4) (View.ld x5 r2_4) (View.ld x6 r2_4)⟩,
      ⟨r2_9, logitRow (params x3) (feats (View.ld x1 r2_1) (View.ld x0 r2_7)) (View.ld x4 r2_4) (View.ld x5 r2_4) (View.ld x6 r2_4)⟩,
      ⟨r2_5, logitRow (params x3) (feats (View.ld x1 r2_1) (View.ld x0 r2_2)) (View.ld x4 r2_4) (View.ld x5 r2_4) (View.ld x6 r2_4)⟩] := by
  unfold_out out2_8
  rfl

/-- The buffer of the flags: one piece per row. -/
theorem valid_pieces : out2_9 i x0 x1 x2 x3 x4 x5 x6 =
    View.canon [⟨r2_34, validRow (params x3) (depths (View.ld x2 r2_34)) (rowWord (BitVec.ofNat 32 (i 0).val) 7#32)⟩,
      ⟨r2_30, validRow (params x3) (depths (View.ld x2 r2_30)) (rowWord (BitVec.ofNat 32 (i 0).val) 6#32)⟩,
      ⟨r2_26, validRow (params x3) (depths (View.ld x2 r2_26)) (rowWord (BitVec.ofNat 32 (i 0).val) 5#32)⟩,
      ⟨r2_22, validRow (params x3) (depths (View.ld x2 r2_22)) (rowWord (BitVec.ofNat 32 (i 0).val) 4#32)⟩,
      ⟨r2_18, validRow (params x3) (depths (View.ld x2 r2_18)) (rowWord (BitVec.ofNat 32 (i 0).val) 3#32)⟩,
      ⟨r2_14, validRow (params x3) (depths (View.ld x2 r2_14)) (rowWord (BitVec.ofNat 32 (i 0).val) 2#32)⟩,
      ⟨r2_10, validRow (params x3) (depths (View.ld x2 r2_10)) (rowWord (BitVec.ofNat 32 (i 0).val) 1#32)⟩,
      ⟨r2_6, validRow (params x3) (depths (View.ld x2 r2_6)) (rowWord (BitVec.ofNat 32 (i 0).val) 0#32)⟩] := by
  unfold_out out2_9
  rfl

/-- The buffer of the voxel numbers: one piece per row. -/
theorem bin_pieces : out2_10 i x0 x1 x2 x3 x4 x5 x6 =
    View.canon [⟨r2_34, binRow (params x3) (depths (View.ld x2 r2_34)) (imageWord (BitVec.ofNat 32 (i 0).val)) (rowWord (BitVec.ofNat 32 (i 0).val) 7#32)⟩,
      ⟨r2_30, binRow (params x3) (depths (View.ld x2 r2_30)) (imageWord (BitVec.ofNat 32 (i 0).val)) (rowWord (BitVec.ofNat 32 (i 0).val) 6#32)⟩,
      ⟨r2_26, binRow (params x3) (depths (View.ld x2 r2_26)) (imageWord (BitVec.ofNat 32 (i 0).val)) (rowWord (BitVec.ofNat 32 (i 0).val) 5#32)⟩,
      ⟨r2_22, binRow (params x3) (depths (View.ld x2 r2_22)) (imageWord (BitVec.ofNat 32 (i 0).val)) (rowWord (BitVec.ofNat 32 (i 0).val) 4#32)⟩,
      ⟨r2_18, binRow (params x3) (depths (View.ld x2 r2_18)) (imageWord (BitVec.ofNat 32 (i 0).val)) (rowWord (BitVec.ofNat 32 (i 0).val) 3#32)⟩,
      ⟨r2_14, binRow (params x3) (depths (View.ld x2 r2_14)) (imageWord (BitVec.ofNat 32 (i 0).val)) (rowWord (BitVec.ofNat 32 (i 0).val) 2#32)⟩,
      ⟨r2_10, binRow (params x3) (depths (View.ld x2 r2_10)) (imageWord (BitVec.ofNat 32 (i 0).val)) (rowWord (BitVec.ofNat 32 (i 0).val) 1#32)⟩,
      ⟨r2_6, binRow (params x3) (depths (View.ld x2 r2_6)) (imageWord (BitVec.ofNat 32 (i 0).val)) (rowWord (BitVec.ofNat 32 (i 0).val) 0#32)⟩] := by
  unfold_out out2_10
  rfl

end Cert.KernelIdeal.Pieces

end
-- ==== Proof.Blocks.lean ====
/-
  What the four output buffers of the feature kernel hold after one grid point, at one row and one pixel, as functions of
  the buffers it read.
-/
module

public import proofs.«01_k».proof.Proof.Gen.KernelIdeal.Frame
public import proofs.«01_k».proof.Proof.Pieces
public import proofs.«01_k».proof.Proof.Pixel
public import Idealize.ShloMosaic.Lib.Pipeline.ValueKit
public import Idealize.ShloMosaic.Lib.Pointwise

@[expose] public section

set_option maxHeartbeats 4000000
set_option maxRecDepth 16384

noncomputable section

namespace Cert.KernelIdeal.Blocks

open Idealize.ShloMosaic Idealize.ShloMosaic.TcCoe Idealize.SL.Sem
open Idealize.ShloMosaic.Pipeline (Dat)
open Cert.KernelIdeal Cert.KernelIdeal.Gen Cert.KernelIdeal.Rows Cert.KernelIdeal.Pieces Cert.KernelIdeal.Pixel

variable (i : grid2.Coords) (a0 : Vec Ideal S1x8x28x128 .f32) (a1 : Vec Ideal S224x28 .f32) (a2 : Vec Ideal S1x8x224 .f32)
  (a3 : Vec Ideal S1x1x16 .f32) (a4 a5 a6 : Vec Ideal S1x128 .f32)

/-- The number of the image row a pixel of a block lies in. -/
abbrev row (i : grid2.Coords) (k : Fin 8) : BitVec 32 := rowWord (BitVec.ofNat 32 (i 0).val) (BitVec.ofNat 32 k.val)

/-- The features of a grid point: every row upsampled along its columns. -/
theorem feat_block (y0 : Fin 1) (k : Fin 8) (z : Fin 224) (o : Fin 128) : out2_7 (F := Ideal) i a0 a1 a2 a3 a4 a5 a6 (ix4 y0 k z o)
    = ∑ x : Fin 28, a1 (ix2 z x) * a0 (ix4 0 k x o) := by
  rw [feat_pieces]
  canon_tiles x h
  all_goals
    idx_vars x
    pointwise [featRow, feats]
    refine Finset.sum_congr (M := EReal) rfl fun k _ => ?_
    refine congrArg₂ (fun a b : EReal => a * b) ?_ ?_ <;> blk_ext

/-- The parameters as the rows read them. -/
theorem params_at (k : Fin 16) : params (F := Ideal) a3 (ix1 k) = a3 (ix3 0 0 k) := by
  pointwise [params]

/-- A whole [1, 128] block is read as it is. -/
theorem ld_row (g : Vec Ideal S1x128 .f32) (c : Fin 128) : (View.ld g r2_4 : Vec Ideal S1x128 .f32) (ix2 0 c) = g (ix2 0 c) := by
  pointwise []

/-- A row's features at a pixel. -/
theorem feats_at (k : Fin 8) (z : Fin 224) (r : Vec Ideal S1x1x28x128 .f32) (h : ∀ x c, r (ix4 0 0 x c) = a0 (ix4 0 k x c)) (c : Fin 128) :
    feats (F := Ideal) (View.ld a1 r2_1) r (ix2 z c) = ∑ x : Fin 28, a1 (ix2 z x) * a0 (ix4 0 k x c) := by
  pointwise [feats]
  refine Finset.sum_congr (M := EReal) rfl fun x _ => ?_
  rw [← h]

/-- The logit depends on the values of the parameters only. -/
theorem logitOf_congr (f : Fin 128 → EReal) (a t : EReal) {g b w g' b' w' : Fin 128 → EReal} (hg : ∀ c, g c = g' c)
    (hb : ∀ c, b c = b' c) (hw : ∀ c, w c = w' c) : logitOf f g b w a t = logitOf f g' b' w' a t := by
  rw [funext hg, funext hb, funext hw]

/-- One row's piece of the logits. -/
theorem logit_piece (k : Fin 8) (z : Fin 224) (r : Vec Ideal S1x1x28x128 .f32) (h : ∀ x c, r (ix4 0 0 x c) = a0 (ix4 0 k x c)) :
    logitRow (F := Ideal) (params a3) (feats (View.ld a1 r2_1) r) (View.ld a4 r2_4) (View.ld a5 r2_4) (View.ld a6 r2_4) (ix4 0 0 z 0)
    = logitOf (fun c => ∑ x : Fin 28, a1 (ix2 z x) * a0 (ix4 0 k x c)) (fun c => a4 (ix2 0 c)) (fun c => a5 (ix2 0 c))
      (fun c => a6 (ix2 0 c)) (a3 (ix3 0 0 14)) (a3 (ix3 0 0 15)) := by
  rw [logitRow_at, params_at, params_at]
  simp only [feats_at a0 a1 k z r h]
  exact logitOf_congr _ _ _ (ld_row a4) (ld_row a5) (ld_row a6)

/-- The logits of a grid point. -/
theorem logit_block (y0 : Fin 1) (k : Fin 8) (z : Fin 224) (o : Fin 1) : out2_8 (F := Ideal) i a0 a1 a2 a3 a4 a5 a6 (ix4 y0 k z o)
    = logitOf (fun c => ∑ x : Fin 28, a1 (ix2 z x) * a0 (ix4 0 k x c)) (fun c => a4 (ix2 0 c)) (fun c => a5 (ix2 0 c))
      (fun c => a6 (ix2 0 c)) (a3 (ix3 0 0 14)) (a3 (ix3 0 0 15)) := by
  rw [logit_pieces]
  canon_tiles x h
  all_goals
    idx_vars x
    obtain rfl : x0 = 0 := Subsingleton.elim _ _
    obtain rfl : x1 = 0 := Subsingleton.elim _ _
    obtain rfl : x3 = 0 := Subsingleton.elim _ _
    obtain rfl : z = x2 := Fin.ext h2
    exact logit_piece _ _ _ _ _ _ k _ _ fun x c => by pointwise []; blk_ext

/-- The flags of a grid point. -/
theorem valid_block (y0 : Fin 1) (k : Fin 8) (z : Fin 224) : out2_9 (F := Ideal) i a0 a1 a2 a3 a4 a5 a6 (ix3 y0 k z)
    = validAt (fun j => a3 (ix3 0 0 j)) (a2 (ix3 0 k z)) (BitVec.ofNat 32 z) (row i k) := by
  rw [valid_pieces]
  canon_tiles x h
  all_goals
    idx_vars x
    obtain rfl : x0 = 0 := Subsingleton.elim _ _
    obtain rfl : x1 = 0 := Subsingleton.elim _ _
    obtain rfl : z = x2 := Fin.ext h2
    refine (validRow_at _ _ _ _).trans ?_
    simp only [params_at]
    simp only [Fin.val_zero, add_zero] at h1
    simp only [row, h1]
    refine congrArg (fun d => validAt _ d _ _) ?_
    pointwise [depths]
    blk_ext

/-- The voxel numbers of a grid point. -/
theorem bin_block (y0 : Fin 1) (k : Fin 8) (z : Fin 224) : out2_10 (F := Ideal) i a0 a1 a2 a3 a4 a5 a6 (ix3 y0 k z)
    = binAt (fun j => a3 (ix3 0 0 j)) (a2 (ix3 0 k z)) (BitVec.ofNat 32 z) (row i k) (imageWord (BitVec.ofNat 32 (i 0).val)) := by
  rw [bin_pieces]
  canon_tiles x h
  all_goals
    idx_vars x
    obtain rfl : x0 = 0 := Subsingleton.elim _ _
    obtain rfl : x1 = 0 := Subsingleton.elim _ _
    obtain rfl : z = x2 := Fin.ext h2
    refine (binRow_at _ _ _ _ _).trans ?_
    simp only [params_at]
    simp only [Fin.val_zero, add_zero] at h1
    simp only [row, h1]
    refine congrArg (fun d => binAt _ d _ _ _) ?_
    pointwise [depths]
    blk_ext

end Cert.KernelIdeal.Blocks

end
-- ==== Proof.Features.lean ====
/-
  What the four arrays of the feature call hold: the features (`featArr`), the logits (`logitArr`), the flags
  (`validArr`) and the voxel numbers (`binArr`), by block of rows, row and column.
-/
module

public import proofs.«01_k».proof.Proof.Gen.KernelIdeal.Frame
public import proofs.«01_k».proof.Proof.Blocks
public import proofs.«01_k».proof.Proof.Pixel
public import Idealize.ShloMosaic.Lib.Pipeline.ValueKit
public import Idealize.ShloMosaic.Lib.Pointwise

@[expose] public section

set_option maxHeartbeats 4000000
set_option maxRecDepth 16384

noncomputable section

namespace Cert.KernelIdeal.Features

open Idealize.ShloMosaic Idealize.ShloMosaic.TcCoe Idealize.SL.Sem
open Idealize.ShloMosaic.Pipeline (Dat)
open Cert.KernelIdeal Cert.KernelIdeal.Gen Cert.KernelIdeal.Rows Cert.KernelIdeal.Pieces Cert.KernelIdeal.Pixel Cert.KernelIdeal.Blocks

variable (V : (c : Dev nD) → (b : Ref sig .tc) → Buf (Elt Ideal) ((c : Thread nD τ).loc b))

/-- Where the windows of the third call stand at each grid point. -/
theorem idx2 : ∀ t : Fin grid2.N, win2_0.index t = ![t.val, 0, 0, 0] ∧ win2_1.index t = ![0, 0] ∧ win2_2.index t = ![t.val / 28, t.val % 28, 0]
   ∧ win2_3.index t = ![t.val / 28, 0, 0] ∧ win2_4.index t = ![0, 0] ∧ win2_5.index t = ![0, 0] ∧ win2_6.index t = ![0, 0]
   ∧ win2_7.index t = ![t.val, 0, 0, 0] ∧ win2_8.index t = ![t.val, 0, 0, 0] ∧ win2_9.index t = ![t.val, 0, 0] ∧ win2_10.index t = ![t.val, 0, 0] := by decide +kernel

/-- The image a block of rows belongs to. -/
def imageOf (g : Fin 112) : Fin 4 := ⟨g.val / 28, by omega⟩

/-- The image row that row `k` of a block is. -/
def rowOf (g : Fin 112) (k : Fin 8) : Fin 224 := ⟨g.val % 28 * 8 + k.val, by omega⟩

/-- The kernel's words for the image and the image row are those numbers. -/
theorem words : ∀ (t : Fin grid2.N), imageWord (BitVec.ofNat 32 (grid2.coords t 0).val) = BitVec.ofNat 32 (t.val / 28) ∧
    ∀ k : Fin 8, row (grid2.coords t) k = BitVec.ofNat 32 (t.val % 28 * 8 + k.val) := by decide +kernel

/-- The features: the column upsampling of every row. -/
def featArr (r : Vec Ideal S112x8x28x128 .f32) (u : Vec Ideal S224x28 .f32) : Vec Ideal S112x8x224x128 .f32 := fun i =>
  ∑ x : Fin 28, u (ix2 (i 2) x) * r (ix4 (i 0) (i 1) x (i 3))

/-- The logits. -/
def logitArr (r : Vec Ideal S112x8x28x128 .f32) (u : Vec Ideal S224x28 .f32) (p : Vec Ideal S4x1x16 .f32)
    (g b w : Vec Ideal S1x128 .f32) : Vec Ideal S112x8x224x1 .f32 := fun i =>
  logitOf (fun c => featArr r u (ix4 (i 0) (i 1) (i 2) c)) (fun c => g (ix2 0 c)) (fun c => b (ix2 0 c)) (fun c => w (ix2 0 c))
    (p (ix3 (imageOf (i 0)) 0 14)) (p (ix3 (imageOf (i 0)) 0 15))

/-- The flags. -/
def validArr (d : Vec Ideal S4x224x224 .f32) (p : Vec Ideal S4x1x16 .f32) : Vec Ideal S112x8x224 .f32 := fun i =>
  validAt (fun j => p (ix3 (imageOf (i 0)) 0 j)) (d (ix3 (imageOf (i 0)) (rowOf (i 0) (i 1)) (i 2)))
    (BitVec.ofNat 32 (i 2).val) (BitVec.ofNat 32 (rowOf (i 0) (i 1)).val)

/-- The voxel numbers. -/
def binArr (d : Vec Ideal S4x224x224 .f32) (p : Vec Ideal S4x1x16 .f32) : Vec Ideal S112x8x224 .i32 := fun i =>
  binAt (fun j => p (ix3 (imageOf (i 0)) 0 j)) (d (ix3 (imageOf (i 0)) (rowOf (i 0) (i 1)) (i 2)))
    (BitVec.ofNat 32 (i 2).val) (BitVec.ofNat 32 (rowOf (i 0) (i 1)).val) (BitVec.ofNat 32 (imageOf (i 0)).val)

/-- The third call has 112 grid points. -/
theorem lt2 (t : Fin cfg2.N) : t.val < 112 := lt_of_lt_of_eq t.isLt N_2

/-- The block of upsampled rows, read at a row, a column and a channel. -/
theorem read0 (c : Dev nD) (t : Fin cfg2.N) (k : Fin 8) (x : Fin 28) (o : Fin 128) :
    iblk2 V c 0 t (ix4 0 k x o) = V c main_v57 (ix4 ⟨t.val, lt2 t⟩ k x o) := by blk_ext [iblk2, idx2 t]

/-- The column weights are handed whole to every point. -/
theorem read1 (c : Dev nD) (t : Fin cfg2.N) : iblk2 V c 1 t = V c main_cst_1 := by funext j; blk_ext [iblk2, idx2 t]

/-- The block of depths, read at a row and a column. -/
theorem read2 (c : Dev nD) (t : Fin cfg2.N) (k : Fin 8) (z : Fin 224) :
    iblk2 V c 2 t (ix3 0 k z) = V c main_arg1 (ix3 (imageOf ⟨t.val, lt2 t⟩) (rowOf ⟨t.val, lt2 t⟩ k) z) := by
  unfold imageOf rowOf
  blk_ext [iblk2, idx2 t]

/-- The block of parameters is the parameter row of the point's image. -/
theorem read3 (c : Dev nD) (t : Fin cfg2.N) (k : Fin 16) :
    iblk2 V c 3 t (ix3 0 0 k) = V c main_v56 (ix3 (imageOf ⟨t.val, lt2 t⟩) 0 k) := by
  unfold imageOf
  blk_ext [iblk2, idx2 t]

/-- The scale is handed whole to every point. -/
theorem read4 (c : Dev nD) (t : Fin cfg2.N) : iblk2 V c 4 t = V c main_v58 := by funext j; blk_ext [iblk2, idx2 t]
/-- The shift is handed whole to every point. -/
theorem read5 (c : Dev nD) (t : Fin cfg2.N) : iblk2 V c 5 t = V c main_v59 := by funext j; blk_ext [iblk2, idx2 t]
/-- The attention weights are handed whole to every point. -/
theorem read6 (c : Dev nD) (t : Fin cfg2.N) : iblk2 V c 6 t = V c main_v60 := by funext j; blk_ext [iblk2, idx2 t]

/-- The features the third call leaves, block by block. -/
theorem feat_array (c : Dev nD) : (dat2 V c).arrAt 7 cfg2.N = featArr (V c main_v57) (V c main_cst_1) := by
  refine (dat2 V c).arrAt_eq_of_covers 7 _ (by decide +kernel) fun t hf y => ?_
  blk_simp
  rw [after2_7]
  idx_vars y
  generalize hi : (((View.whole main_v61_0).slice (win2_7.rect t)).emb (ix4 y0 y1 y2 y3)) = i
  have h0 : i 0 = ⟨t.val, lt2 t⟩ := by subst hi; apply Fin.ext; blk_ext [idx2 t]
  have h1 : i 1 = y1 := by subst hi; apply Fin.ext; blk_ext [idx2 t]
  have h2 : i 2 = y2 := by subst hi; apply Fin.ext; blk_ext [idx2 t]
  have h3 : i 3 = y3 := by subst hi; apply Fin.ext; blk_ext [idx2 t]
  refine (feat_block _ _ _ _ _ _ _ _ _ _ _ _).trans ?_
  show _ = featArr _ _ i
  unfold featArr
  rw [h0, h1, h2, h3]
  simp only [read0, read1]
  rfl

/-- The logits the third call leaves. -/
theorem logit_array (c : Dev nD) : (dat2 V c).arrAt 8 cfg2.N = logitArr (V c main_v57) (V c main_cst_1) (V c main_v56)
    (V c main_v58) (V c main_v59) (V c main_v60) := by
  refine (dat2 V c).arrAt_eq_of_covers 8 _ (by decide +kernel) fun t hf y => ?_
  blk_simp
  rw [after2_8]
  idx_vars y
  generalize hi : (((View.whole main_v61_1).slice (win2_8.rect t)).emb (ix4 y0 y1 y2 y3)) = i
  have h0 : i 0 = ⟨t.val, lt2 t⟩ := by subst hi; apply Fin.ext; blk_ext [idx2 t]
  have h1 : i 1 = y1 := by subst hi; apply Fin.ext; blk_ext [idx2 t]
  have h2 : i 2 = y2 := by subst hi; apply Fin.ext; blk_ext [idx2 t]
  refine (logit_block _ _ _ _ _ _ _ _ _ _ _ _).trans ?_
  show _ = logitArr _ _ _ _ _ _ i
  unfold logitArr featArr
  rw [h0, h1, h2]
  simp only [read0, read1, read3, read4, read5, read6]
  rfl

/-- The flags the third call leaves. -/
theorem valid_array (c : Dev nD) : (dat2 V c).arrAt 9 cfg2.N = validArr (V c main_arg1) (V c main_v56) := by
  refine (dat2 V c).arrAt_eq_of_covers 9 _ (by decide +kernel) fun t hf y => ?_
  blk_simp
  rw [after2_9]
  idx_vars y
  generalize hi : (((View.whole main_v61_2).slice (win2_9.rect t)).emb (ix3 y0 y1 y2)) = i
  have h0 : i 0 = ⟨t.val, lt2 t⟩ := by subst hi; apply Fin.ext; blk_ext [idx2 t]
  have h1 : i 1 = y1 := by subst hi; apply Fin.ext; blk_ext [idx2 t]
  have h2 : i 2 = y2 := by subst hi; apply Fin.ext; blk_ext [idx2 t]
  refine (valid_block _ _ _ _ _ _ _ _ _ _ _).trans ?_
  show _ = validArr _ _ i
  unfold validArr
  rw [h0, h1, h2, (words t).2 y1]
  simp only [read2, read3]
  rfl

/-- The voxel numbers the third call leaves. -/
theorem bin_array (c : Dev nD) : (dat2 V c).arrAt 10 cfg2.N = binArr (V c main_arg1) (V c main_v56) := by
  refine (dat2 V c).arrAt_eq_of_covers 10 _ (by decide +kernel) fun t hf y => ?_
  blk_simp
  rw [after2_10]
  idx_vars y
  generalize hi : (((View.whole main_v61_3).slice (win2_10.rect t)).emb (ix3 y0 y1 y2)) = i
  have h0 : i 0 = ⟨t.val, lt2 t⟩ := by subst hi; apply Fin.ext; blk_ext [idx2 t]
  have h1 : i 1 = y1 := by subst hi; apply Fin.ext; blk_ext [idx2 t]
  have h2 : i 2 = y2 := by subst hi; apply Fin.ext; blk_ext [idx2 t]
  refine (bin_block _ _ _ _ _ _ _ _ _ _ _).trans ?_
  show _ = binArr _ _ i
  unfold binArr
  rw [h0, h1, h2, (words t).1, (words t).2 y1]
  simp only [read2, read3]
  rfl

end Cert.KernelIdeal.Features

end
-- ==== Proof.Host.lean ====
/-
  What the host operations between the calls leave in the arrays the calls read.

  Every theorem reads one array after a stretch of host operations, `U` the contents the stretch finds.
-/
module

public import proofs.«01_k».proof.Proof.Gen.KernelIdeal.Frame
public import proofs.«01_k».proof.Proof.Tables
public import proofs.«01_k».proof.Proof.Geometry
public import proofs.«01_k».proof.Proof.Features
public import Idealize.ShloMosaic.Lib.Pointwise
public import Idealize.ShloMosaic.Lib.StableHlo.RunRead

@[expose] public section

set_option maxHeartbeats 4000000
set_option maxRecDepth 16384

noncomputable section

namespace Cert.KernelIdeal.Host

open Idealize.ShloMosaic Idealize.ShloMosaic.TcCoe
open Idealize.SL.Sem
open Cert.KernelIdeal Cert.KernelIdeal.Gen Cert.Consts
variable (U : Valuation τ sig (Elt Ideal))

/-- The image features, pixels flattened. -/
theorem image (b : Fin 4) (k : Fin 256) (y x : Fin 28) : (StableHlo.after hostOps0 U (Proc.devRef .tc main_v0) : Vec Ideal S4x256x784 .f32) (ix3 b k ⟨y.val * 28 + x.val, by omega⟩) = (U (Proc.devRef .tc main_arg0) : Vec Ideal S4x256x28x28 .f32) (ix4 b k y x) := by
  unfold hostOps0
  after_reads_simp
  have h1 : (y.val * 28 + x.val) / 28 = y.val := by omega
  have h2 : (y.val * 28 + x.val) % 28 = x.val := by omega
  pointwise []
/-- A parameter of the group normalisation as a row. -/
theorem gain (o : Fin 128) : (StableHlo.after hostOps0 U (Proc.devRef .tc main_v1) : Vec Ideal S1x128 .f32) (ix2 0 o) = (U (Proc.devRef .tc main_arg6) : Vec Ideal S128 .f32) (ix1 o) := by
  unfold hostOps0
  after_reads_simp
  pointwise []
/-- A parameter of the group normalisation as a row. -/
theorem shift (o : Fin 128) : (StableHlo.after hostOps0 U (Proc.devRef .tc main_v2) : Vec Ideal S1x128 .f32) (ix2 0 o) = (U (Proc.devRef .tc main_arg7) : Vec Ideal S128 .f32) (ix1 o) := by
  unfold hostOps0
  after_reads_simp
  pointwise []
/-- The averaging matrix. -/
theorem averaging (a b : Fin 128) : (StableHlo.after hostOps0 U (Proc.devRef .tc main_cst) : Vec Ideal S128x128 .f32) (ix2 a b) = if a.val / 4 = b.val / 4 then Ideal.ofBits .f32 0x3E800000#32 else 0 := by
  unfold hostOps0
  after_reads_simp
  have e : S128x128.rowMajor (ix2 a b) = (⟨a.val * 128 + b.val, by omega⟩ : Fin 16384) := by apply Fin.ext; exact Shape.rowMajor_val_two _
  show Ideal.ofBits .f32 (lit0 (S128x128.rowMajor (ix2 a b))) = _
  rw [e, lit0_word]
  split_ifs
  · rfl
  · simp [Ideal.ofBits, Ideal.ieee]
/-- An upsampling table. -/
theorem row_table (o : Fin 224) (i : Fin 28) : (StableHlo.after hostOps0 U (Proc.devRef .tc main_cst_0) : Vec Ideal S224x28 .f32) (ix2 o i) = Ideal.ofBits .f32 (sixteenth (weight16 o.val i.val)) := by
  unfold hostOps0
  after_reads_simp
  have e : S224x28.rowMajor (ix2 o i) = (⟨o.val * 28 + i.val, by omega⟩ : Fin 6272) := by apply Fin.ext; exact Shape.rowMajor_val_two _
  show Ideal.ofBits .f32 (lit1 (S224x28.rowMajor (ix2 o i))) = _
  rw [e, lit1_word]
/-- An upsampling table. -/
theorem column_table (o : Fin 224) (i : Fin 28) : (StableHlo.after hostOps0 U (Proc.devRef .tc main_cst_1) : Vec Ideal S224x28 .f32) (ix2 o i) = Ideal.ofBits .f32 (sixteenth (weight16 o.val i.val)) := by
  unfold hostOps0
  after_reads_simp
  have e : S224x28.rowMajor (ix2 o i) = (⟨o.val * 28 + i.val, by omega⟩ : Fin 6272) := by apply Fin.ext; exact Shape.rowMajor_val_two _
  show Ideal.ofBits .f32 (lit2 (S224x28.rowMajor (ix2 o i))) = _
  rw [e, lit2_word]
/-- The first call's result, the columns and channels of a row together. -/
theorem lines (b : Fin 4) (y x : Fin 28) (o : Fin 128) : (StableHlo.after hostOps1 U (Proc.devRef .tc main_v4) : Vec Ideal S4x28x3584 .f32) (ix3 b y ⟨x.val * 128 + o.val, by omega⟩) = (U (Proc.devRef .tc main_v3) : Vec Ideal S4x784x128 .f32) (ix3 b ⟨y.val * 28 + x.val, by omega⟩ o) := by
  unfold hostOps1
  after_reads_simp
  have h1 : (x.val * 128 + o.val) / 128 = x.val := by omega
  pointwise []
  simp only [h1]
/-- The upsampled rows in blocks of eight. -/
theorem blocks (g : Fin 112) (k : Fin 8) (x : Fin 28) (o : Fin 128) : (StableHlo.after hostOps2 U (Proc.devRef .tc main_v57) : Vec Ideal S112x8x28x128 .f32) (ix4 g k x o) = (U (Proc.devRef .tc main_v5) : Vec Ideal S4x224x3584 .f32) (ix3 (Features.imageOf g) (Features.rowOf g k) ⟨x.val * 128 + o.val, by omega⟩) := by
  unfold hostOps2
  after_reads_simp
  pointwise []
  rfl
/-- A parameter of the logits as a row. -/
theorem norm_gain (c : Fin 128) : (StableHlo.after hostOps2 U (Proc.devRef .tc main_v58) : Vec Ideal S1x128 .f32) (ix2 0 c) = (U (Proc.devRef .tc main_arg9) : Vec Ideal S128 .f32) (ix1 c) := by
  unfold hostOps2
  after_reads_simp
  pointwise []
/-- A parameter of the logits as a row. -/
theorem norm_shift (c : Fin 128) : (StableHlo.after hostOps2 U (Proc.devRef .tc main_v59) : Vec Ideal S1x128 .f32) (ix2 0 c) = (U (Proc.devRef .tc main_arg10) : Vec Ideal S128 .f32) (ix1 c) := by
  unfold hostOps2
  after_reads_simp
  pointwise []
/-- A parameter of the logits as a row. -/
theorem attention (c : Fin 128) : (StableHlo.after hostOps2 U (Proc.devRef .tc main_v60) : Vec Ideal S1x128 .f32) (ix2 0 c) = (U (Proc.devRef .tc main_arg11) : Vec Ideal S128x1 .f32) (ix2 c 0) := by
  unfold hostOps2
  after_reads_simp
  pointwise []
/-- Sixteen columns side by side, read at one of them. -/
theorem sixteen (c0 c1 c2 c3 c4 c5 c6 c7 c8 c9 c10 c11 c12 c13 c14 c15 : Vec Ideal S4x1 .f32) (b : Fin 4) (k : Fin 16) :
    (shapeCast S4x1x16 (concatenate S4x16 1 [⟨S4x1, c0⟩, ⟨S4x1, c1⟩, ⟨S4x1, c2⟩, ⟨S4x1, c3⟩, ⟨S4x1, c4⟩, ⟨S4x1, c5⟩, ⟨S4x1, c6⟩, ⟨S4x1, c7⟩, ⟨S4x1, c8⟩, ⟨S4x1, c9⟩, ⟨S4x1, c10⟩, ⟨S4x1, c11⟩, ⟨S4x1, c12⟩, ⟨S4x1, c13⟩, ⟨S4x1, c14⟩, ⟨S4x1, c15⟩] concatenates_S4x1_S4x1_S4x1_S4x1_S4x1_S4x1_S4x1_S4x1_S4x1_S4x1_S4x1_S4x1_S4x1_S4x1_S4x1_S4x1_S4x16_d1) shapeCasts_S4x16_S4x1x16 : Vec Ideal S4x1x16 .f32) (ix3 b 0 k)
      = (![c0 (ix2 b 0), c1 (ix2 b 0), c2 (ix2 b 0), c3 (ix2 b 0), c4 (ix2 b 0), c5 (ix2 b 0), c6 (ix2 b 0), c7 (ix2 b 0), c8 (ix2 b 0), c9 (ix2 b 0), c10 (ix2 b 0), c11 (ix2 b 0), c12 (ix2 b 0), c13 (ix2 b 0), c14 (ix2 b 0), c15 (ix2 b 0)] : Fin 16 → EReal) k := by
  fin_cases k
  all_goals pointwise []

/-- The sixteen columns are the sixteen numbers of the image: nine of the inverse intrinsics' and pose's first rows,
    the shifts, the height, zero, the offset and the temperature. -/
theorem columns (b : Fin 4) (k : Fin 16) :
    (![(StableHlo.upto hostOps2 U 50 (Proc.devRef .tc main_v39) : Vec Ideal S4x1 .f32) (ix2 b 0), (StableHlo.upto hostOps2 U 50 (Proc.devRef .tc main_v40) : Vec Ideal S4x1 .f32) (ix2 b 0), (StableHlo.upto hostOps2 U 50 (Proc.devRef .tc main_v41) : Vec Ideal S4x1 .f32) (ix2 b 0), (StableHlo.upto hostOps2 U 50 (Proc.devRef .tc main_v42) : Vec Ideal S4x1 .f32) (ix2 b 0), (StableHlo.upto hostOps2 U 50 (Proc.devRef .tc main_v43) : Vec Ideal S4x1 .f32) (ix2 b 0), (StableHlo.upto hostOps2 U 50 (Proc.devRef .tc main_v44) : Vec Ideal S4x1 .f32) (ix2 b 0), (StableHlo.upto hostOps2 U 50 (Proc.devRef .tc main_v45) : Vec Ideal S4x1 .f32) (ix2 b 0), (StableHlo.upto hostOps2 U 50 (Proc.devRef .tc main_v46) : Vec Ideal S4x1 .f32) (ix2 b 0), (StableHlo.upto hostOps2 U 50 (Proc.devRef .tc main_v47) : Vec Ideal S4x1 .f32) (ix2 b 0), (StableHlo.upto hostOps2 U 50 (Proc.devRef .tc main_v48) : Vec Ideal S4x1 .f32) (ix2 b 0), (StableHlo.upto hostOps2 U 50 (Proc.devRef .tc main_v49) : Vec Ideal S4x1 .f32) (ix2 b 0), (StableHlo.upto hostOps2 U 50 (Proc.devRef .tc main_v50) : Vec Ideal S4x1 .f32) (ix2 b 0), (StableHlo.upto hostOps2 U 50 (Proc.devRef .tc main_v51) : Vec Ideal S4x1 .f32) (ix2 b 0), (StableHlo.upto hostOps2 U 50 (Proc.devRef .tc main_v52) : Vec Ideal S4x1 .f32) (ix2 b 0), (StableHlo.upto hostOps2 U 50 (Proc.devRef .tc main_v53) : Vec Ideal S4x1 .f32) (ix2 b 0), (StableHlo.upto hostOps2 U 50 (Proc.devRef .tc main_v54) : Vec Ideal S4x1 .f32) (ix2 b 0)] : Fin 16 → EReal) k
      = ReferenceIdeal.Geometry.params (U (Proc.devRef .tc main_arg2) : Vec Ideal S4x3x3 .f32) (U (Proc.devRef .tc main_arg3) : Vec Ideal S4x4x4 .f32) (U (Proc.devRef .tc main_arg4) : Vec Ideal S4 .f32) (U (Proc.devRef .tc main_arg8) : Vec Ideal S_ .f32) (U (Proc.devRef .tc main_arg12) : Vec Ideal S1 .f32) b k := by
  unfold hostOps2
  after_reads_simp
  pointwise []
  fin_cases k
  all_goals rfl

/-- The sixteen numbers of an image. -/
theorem params_row (b : Fin 4) (k : Fin 16) : (StableHlo.after hostOps2 U (Proc.devRef .tc main_v56) : Vec Ideal S4x1x16 .f32) (ix3 b 0 k) = ReferenceIdeal.Geometry.params (U (Proc.devRef .tc main_arg2) : Vec Ideal S4x3x3 .f32) (U (Proc.devRef .tc main_arg3) : Vec Ideal S4x4x4 .f32) (U (Proc.devRef .tc main_arg4) : Vec Ideal S4 .f32) (U (Proc.devRef .tc main_arg8) : Vec Ideal S_ .f32) (U (Proc.devRef .tc main_arg12) : Vec Ideal S1 .f32) b k := by
  unfold hostOps2
  after_reads_simp
  exact ((sixteen (StableHlo.upto hostOps2 U 50 (Proc.devRef .tc main_v39) : Vec Ideal S4x1 .f32) (StableHlo.upto hostOps2 U 50 (Proc.devRef .tc main_v40) : Vec Ideal S4x1 .f32) (StableHlo.upto hostOps2 U 50 (Proc.devRef .tc main_v41) : Vec Ideal S4x1 .f32) (StableHlo.upto hostOps2 U 50 (Proc.devRef .tc main_v42) : Vec Ideal S4x1 .f32) (StableHlo.upto hostOps2 U 50 (Proc.devRef .tc main_v43) : Vec Ideal S4x1 .f32) (StableHlo.upto hostOps2 U 50 (Proc.devRef .tc main_v44) : Vec Ideal S4x1 .f32) (StableHlo.upto hostOps2 U 50 (Proc.devRef .tc main_v45) : Vec Ideal S4x1 .f32) (StableHlo.upto hostOps2 U 50 (Proc.devRef .tc main_v46) : Vec Ideal S4x1 .f32) (StableHlo.upto hostOps2 U 50 (Proc.devRef .tc main_v47) : Vec Ideal S4x1 .f32) (StableHlo.upto hostOps2 U 50 (Proc.devRef .tc main_v48) : Vec Ideal S4x1 .f32) (StableHlo.upto hostOps2 U 50 (Proc.devRef .tc main_v49) : Vec Ideal S4x1 .f32) (StableHlo.upto hostOps2 U 50 (Proc.devRef .tc main_v50) : Vec Ideal S4x1 .f32) (StableHlo.upto hostOps2 U 50 (Proc.devRef .tc main_v51) : Vec Ideal S4x1 .f32) (StableHlo.upto hostOps2 U 50 (Proc.devRef .tc main_v52) : Vec Ideal S4x1 .f32) (StableHlo.upto hostOps2 U 50 (Proc.devRef .tc main_v53) : Vec Ideal S4x1 .f32) (StableHlo.upto hostOps2 U 50 (Proc.devRef .tc main_v54) : Vec Ideal S4x1 .f32) b k).trans (columns U b k))
/-- An array of the third call with its pixels flattened. -/
theorem flat_features (N : Fin 200704) (o : Fin 128) : (StableHlo.after hostOps3 U (Proc.devRef .tc main_v62) : Vec Ideal S200704x128 .f32) (ix2 N o) = (U (Proc.devRef .tc main_v61_0) : Vec Ideal S112x8x224x128 .f32) (ix4 ⟨N.val / 1792, by omega⟩ ⟨N.val / 224 % 8, by omega⟩ ⟨N.val % 224, by omega⟩ o) := by
  unfold hostOps3
  after_reads_simp
  pointwise []
/-- An array of the third call with its pixels flattened. -/
theorem flat_logits (N : Fin 200704) : (StableHlo.after hostOps3 U (Proc.devRef .tc main_v63) : Vec Ideal S200704x1 .f32) (ix2 N 0) = (U (Proc.devRef .tc main_v61_1) : Vec Ideal S112x8x224x1 .f32) (ix4 ⟨N.val / 1792, by omega⟩ ⟨N.val / 224 % 8, by omega⟩ ⟨N.val % 224, by omega⟩ 0) := by
  unfold hostOps3
  after_reads_simp
  pointwise []
/-- An array of the third call with its pixels flattened. -/
theorem flat_flags (N : Fin 200704) : (StableHlo.after hostOps3 U (Proc.devRef .tc main_v64) : Vec Ideal S200704x1 .f32) (ix2 N 0) = (U (Proc.devRef .tc main_v61_2) : Vec Ideal S112x8x224 .f32) (ix3 ⟨N.val / 1792, by omega⟩ ⟨N.val / 224 % 8, by omega⟩ ⟨N.val % 224, by omega⟩) := by
  unfold hostOps3
  after_reads_simp
  pointwise []
/-- An array of the third call with its pixels flattened. -/
theorem flat_numbers (N : Fin 200704) : (StableHlo.after hostOps3 U (Proc.devRef .tc main_v65) : Vec Ideal S200704 .i32) (ix1 N) = (U (Proc.devRef .tc main_v61_3) : Vec Ideal S112x8x224 .i32) (ix3 ⟨N.val / 1792, by omega⟩ ⟨N.val / 224 % 8, by omega⟩ ⟨N.val % 224, by omega⟩) := by
  unfold hostOps3
  after_reads_simp
  pointwise []
/-- Whether a flag is set. -/
theorem flag (N : Fin 200704) : (StableHlo.after hostOps3 U (Proc.devRef .tc main_v67) : Vec Ideal S200704x1 .i1) (ix2 N 0) = BitVec.ofBool (decide ((0 : EReal) < (show EReal from (U (Proc.devRef .tc main_v61_2) : Vec Ideal S112x8x224 .f32) (ix3 ⟨N.val / 1792, by omega⟩ ⟨N.val / 224 % 8, by omega⟩ ⟨N.val % 224, by omega⟩)))) := by
  unfold hostOps3
  after_reads_simp
  pointwise []
/-- What stands in for the logits of pixels outside. -/
theorem outside : (StableHlo.after hostOps3 U (Proc.devRef .tc main_cst_4) : Vec Ideal S_ .f32) = constant (F := Ideal) S_ .f32 0xFF800000#32 := by
  unfold hostOps3
  after_reads_simp

/-- The logits with the pixels outside masked. -/
theorem masked (N : Fin 200704) : (StableHlo.after hostOps3_1 U (Proc.devRef .tc main_v68) : Vec Ideal S200704x1 .f32) (ix2 N 0) = Scalar.select ((U (Proc.devRef .tc main_v67) : Vec Ideal S200704x1 .i1) (ix2 N 0)) ((U (Proc.devRef .tc main_v63) : Vec Ideal S200704x1 .f32) (ix2 N 0)) ((U (Proc.devRef .tc main_cst_4) : Vec Ideal S_ .f32) ix0) := by
  unfold hostOps3_1
  after_reads_simp
  show (select (U (Proc.devRef .tc main_v67) : Vec Ideal S200704x1 .i1) (U (Proc.devRef .tc main_v63) : Vec Ideal S200704x1 .f32) (broadcastInDim S200704x1 ![] bcast_S_S200704x1 (id (U (Proc.devRef .tc main_cst_4) : Vec Ideal S_ .f32))) : Vec Ideal S200704x1 .f32) (ix2 N 0) = _
  pointwise []
  rfl
/-- The largest masked logit. -/
theorem largest : (StableHlo.after hostOps3_2 U (Proc.devRef .tc main_v70) : Vec Ideal S1x1 .f32) (ix2 0 0) = Host.reduce (FloatOps.maximumf (F := Ideal)) (U (Proc.devRef .tc main_v68) : Vec Ideal S200704x1 .f32) (constant S_ .f32 0xFF800000#32) reducesTo_S200704x1_S_d0_1 h_S_ ix0 := by
  unfold hostOps3_2
  after_reads_simp
  exact congrArg (Host.reduce (FloatOps.maximumf (F := Ideal)) _ _ _ _) (funext fun a => a.elim0)
/-- The voxel numbers as the sums over voxels take them: a negative number counts from the end. -/
def wrapped (n : Vec Ideal S200704 .i32) : Vec Ideal S200704x1 .i32 :=
  broadcastInDim S200704x1 ![0] bcast_S200704_S200704x1_0
    (select (cmpi .slt n (broadcastInDim S200704 ![] bcast_S_S200704 (constantI S_ 32 0#32)))
      (addi n (broadcastInDim S200704 ![] bcast_S_S200704 (constantI S_ 32 160000#32))) n)

/-- The sums of the weighted features over the voxels. -/
theorem feature_sums : (StableHlo.after hostOps4 U (Proc.devRef .tc main_v79) : Vec Ideal S160000x128 .f32) = Host.scatterAdd scatter_S160000x128_S200704x1_S200704x128_1_0_0_1 (broadcastInDim S160000x128 ![] bcast_S_S160000x128 (constant (F := Ideal) S_ .f32 0x00000000#32)) (wrapped (U (Proc.devRef .tc main_v65) : Vec Ideal S200704 .i32)) (U (Proc.devRef .tc main_v71_0) : Vec Ideal S200704x128 .f32) := by
  unfold hostOps4
  after_reads_simp
  rfl
/-- The sums of the weights over the voxels. -/
theorem weight_sums : (StableHlo.after hostOps4 U (Proc.devRef .tc main_v87) : Vec Ideal S160000x1 .f32) = Host.scatterAdd scatter_S160000x1_S200704x1_S200704x1_1_0_0_1 (broadcastInDim S160000x1 ![] bcast_S_S160000x1 (constant (F := Ideal) S_ .f32 0x00000000#32)) (wrapped (U (Proc.devRef .tc main_v65) : Vec Ideal S200704 .i32)) (U (Proc.devRef .tc main_v71_1) : Vec Ideal S200704x1 .f32) := by
  unfold hostOps4
  after_reads_simp
  rfl
/-- The first result: the averages laid out as images and flipped. -/
theorem result_features : (StableHlo.after hostOps5_1 (StableHlo.after hostOps5 U) (Proc.devRef .tc main_v91) : Vec Ideal S4x128x200x200 .f32) = Host.reverse [2, 3] (transpose S4x128x200x200 [0, 3, 1, 2] (shapeCast S4x200x200x128 (U (Proc.devRef .tc main_v88_0) : Vec Ideal S160000x128 .f32) shapeCasts_S160000x128_S4x200x200x128) transposes_S4x200x200x128_S4x128x200x200_0_3_1_2) := by
  unfold hostOps5 hostOps5_1
  after_reads_simp
  rfl
/-- The second result: the mask laid out as images and flipped. -/
theorem result_mask : (StableHlo.after hostOps5_3 (StableHlo.after hostOps5_2 U) (Proc.devRef .tc main_v94) : Vec Ideal S4x1x200x200 .f32) = Host.reverse [2, 3] (transpose S4x1x200x200 [0, 3, 1, 2] (shapeCast S4x200x200x1 (U (Proc.devRef .tc main_v88_1) : Vec Ideal S160000x1 .f32) shapeCasts_S160000x1_S4x200x200x1) transposes_S4x200x200x1_S4x1x200x200_0_3_1_2) := by
  unfold hostOps5_2 hostOps5_3
  after_reads_simp
  rfl
end Cert.KernelIdeal.Host

end
-- ==== Proof.RefNorm.lean ====
/-
  What the reference's convolution and group normalisation compute, one element at a time.
-/
module

public import proofs.«01_k».proof.Proof.Gen.ReferenceIdeal.Read
public import Idealize.ShloMosaic.Lib.Pointwise

@[expose] public section

set_option maxHeartbeats 4000000
set_option maxRecDepth 16384

noncomputable section

namespace Cert.ReferenceIdeal.Norm

open Idealize.ShloMosaic Idealize.ShloMosaic.TcCoe
open Cert.ReferenceIdeal Cert.ReferenceIdeal.Read
variable (x0 : Vec Ideal S4x256x28x28 .f32) (x5 : Vec Ideal S128x256 .f32) (x6 x7 : Vec Ideal S128 .f32)

/-- The 1x1 convolution. -/
def conv (b : Fin 4) (o : Fin 128) (y x : Fin 28) : EReal := ∑ k : Fin 256, x5 (ix2 o k) * x0 (ix4 b k y x)

/-- The convolution with its channels in groups of four. -/
def grouped (b : Fin 4) (g : Fin 32) (q : Fin 4) (y x : Fin 28) : EReal := conv x0 x5 b ⟨g.val * 4 + q.val, by omega⟩ y x

/-- The mean of a group. -/
def mean (b : Fin 4) (g : Fin 32) : EReal :=
  Ideal.div (∑ q, ∑ y, ∑ x, grouped x0 x5 b g q y x) (Ideal.ofBits .f32 0x45440000#32)

/-- The variance of a group. -/
def var (b : Fin 4) (g : Fin 32) : EReal :=
  Ideal.div (∑ q, ∑ y, ∑ x, (grouped x0 x5 b g q y x - mean x0 x5 b g) * (grouped x0 x5 b g q y x - mean x0 x5 b g))
    (Ideal.ofBits .f32 0x45440000#32)

/-- The group of a channel. -/
def groupOf (o : Fin 128) : Fin 32 := ⟨o.val / 4, by omega⟩

/-- The normalised value before the activation. -/
def normed (b : Fin 4) (o : Fin 128) (y x : Fin 28) : EReal :=
  Ideal.div (conv x0 x5 b o y x - mean x0 x5 b (groupOf o)) (Ideal.sqrt (var x0 x5 b (groupOf o) + Ideal.ofBits .f32 0x3727C5AC#32))
    * x6 (ix1 o) + x7 (ix1 o)

/-- The value after the activation. -/
def active (b : Fin 4) (o : Fin 128) (y x : Fin 28) : EReal :=
  normed x0 x5 x6 x7 b o y x * Ideal.logistic (normed x0 x5 x6 x7 b o y x)

/-- The convolution at a pixel and a channel. -/
theorem conv_at (b : Fin 4) (o : Fin 128) (y x : Fin 28) : val_main_v86 (F := Ideal) x0 x5 (ix4 b o y x) = conv x0 x5 b o y x := by
  pointwise [val_main_v85, val_main_v86]
  rfl

/-- The same, addressed by group. -/
theorem grouped_at (b : Fin 4) (g : Fin 32) (q : Fin 4) (y x : Fin 28) :
    val_main_v87 (F := Ideal) x0 x5 (ix5 b g q y x) = grouped x0 x5 b g q y x := by
  pointwise [val_main_v87]
  exact conv_at x0 x5 b _ y x

/-- The mean of a group. -/
theorem mean_at (b : Fin 4) (g : Fin 32) : val_main_v91 (F := Ideal) x0 x5 (ix5 b g 0 0 0) = mean x0 x5 b g := by
  pointwise [val_main_cst_7, val_main_v88, val_main_v89, val_main_cst_8, val_main_v90, val_main_v91]
  simp only [grouped_at]
  rfl

/-- The variance of a group. -/
theorem var_at (b : Fin 4) (g : Fin 32) : val_main_v98 (F := Ideal) x0 x5 (ix5 b g 0 0 0) = var x0 x5 b g := by
  pointwise [val_main_v92, val_main_v93, val_main_v94, val_main_cst_9, val_main_v95, val_main_v96, val_main_cst_10, val_main_v97, val_main_v98]
  simp only [grouped_at, mean_at]
  rfl

/-- The reference's normalised and activated value. -/
theorem active_at (b : Fin 4) (o : Fin 128) (y x : Fin 28) :
    val_main_v119 (F := Ideal) x0 x5 x6 x7 (ix4 b o y x) = active x0 x5 x6 x7 b o y x := by
  have e : grouped x0 x5 b (groupOf o) ⟨o.val % 4, by omega⟩ y x = conv x0 x5 b o y x :=
    congrArg (fun c => conv x0 x5 b c y x) (Fin.ext (Nat.div_add_mod' o.val 4))
  pointwise [val_main_v99, val_main_v100, val_main_cst_11, val_main_v101, val_main_v102, val_main_v103, val_main_v104, val_main_v105, val_main_v106, val_main_v107, val_main_v108, val_main_v109, val_main_v110, val_main_v111, val_main_v112, val_main_v113, val_main_v114, val_main_cst_12, val_main_v115, val_main_v116, val_main_cst_13, val_main_v117, val_main_v118, val_main_v119]
  rw [grouped_at, mean_at, var_at, show (⟨o.val / 4, by omega⟩ : Fin 32) = groupOf o from rfl, e]
  rfl

end Cert.ReferenceIdeal.Norm

end
-- ==== Proof.ConvNorm.lean ====
/-
  What the array of the first call holds.

  The array is, pixel by pixel, the 1x1 convolution, normalised over groups of four channels and passed through
  x * logistic x (`convNorm`).
-/
module

public import proofs.«01_k».proof.Proof.Gen.KernelIdeal.Frame
public import proofs.«01_k».proof.Proof.Rows
public import Idealize.ShloMosaic.Lib.Pipeline.ValueKit
public import Idealize.ShloMosaic.Lib.Pointwise

@[expose] public section

set_option maxRecDepth 16384

noncomputable section

namespace Cert.KernelIdeal.ConvNorm

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- Where the windows of the second call stand at each grid point. -/
theorem idx1 : ∀ t : Fin grid1.N, win1_0.index t = ![0, 0] ∧ win1_1.index t = ![t.val, 0, 0] ∧ win1_2.index t = ![t.val, 0, 0] := by decide +kernel

/-- The mean of a channel group, as the kernel takes it: the channels' sums, each scaled by `n`, through the
    averaging matrix. -/
def groupMean (n : EReal) (G : Vec Ideal S128x128 .f32) (h : Fin 784 → Fin 128 → EReal) (o : Fin 128) : EReal :=
  ∑ c : Fin 128, (∑ p : Fin 784, h p c) * n * G (ix2 c o)

/-- The normalised value before the activation. -/
def groupNorm (n e : EReal) (G : Vec Ideal S128x128 .f32) (h : Fin 784 → Fin 128 → EReal) (g b : Vec Ideal S1x128 .f32)
    (p : Fin 784) (o : Fin 128) : EReal :=
  (h p o - groupMean n G h o) * Ideal.rsqrt (groupMean n G (fun p c => h p c * h p c) o
    - groupMean n G h o * groupMean n G h o + e) * g (ix2 0 o) + b (ix2 0 o)

/-- The 1x1 convolution. -/
def conv (x : Vec Ideal S4x256x784 .f32) (w : Vec Ideal S128x256 .f32) (b : Fin 4) (p : Fin 784) (o : Fin 128) : EReal :=
  ∑ k : Fin 256, x (ix3 b k p) * w (ix2 o k)

/-- The first call's result. -/
def convNorm (x : Vec Ideal S4x256x784 .f32) (w : Vec Ideal S128x256 .f32) (G : Vec Ideal S128x128 .f32)
    (g b : Vec Ideal S1x128 .f32) : Vec Ideal S4x784x128 .f32 := fun i =>
  groupNorm ((1/784 : ℝ) : EReal) (Ideal.ofBits .f32 925353388#32) G (conv x w (i 0)) g b (i 1) (i 2)
    * Ideal.logistic (groupNorm ((1/784 : ℝ) : EReal) (Ideal.ofBits .f32 925353388#32) G (conv x w (i 0)) g b (i 1) (i 2))

/-- The named constant is 1/784. -/
theorem inv_n : (Named.named κ "inv_n" 984035077#32 : Ideal .f32) = ((1/784 : ℝ) : EReal) :=
  IdealRules.named_const.ideal_named_scalar _ _ _ _ rfl

/-- What the first call stores for an image is `convNorm` of the image, the weights, the averaging matrix, the scale and the shift. -/
theorem pay0 (x0 : Vec Ideal S1x256x784 .f32) (x1 : Vec Ideal S128x256 .f32) (x2 : Vec Ideal S128x128 .f32)
    (x3 x4 : Vec Ideal S1x128 .f32) (z : Fin 1) (p : Fin 784) (o : Fin 128)
    (x : Vec Ideal S4x256x784 .f32) (b : Fin 4) (hx : ∀ k p, x0 (ix3 0 k p) = x (ix3 b k p)) :
    k0_pay1 (F := Ideal) (k0_pay2 (F := Ideal) x0 x1 x2 x2 x3 x4) (ix3 z p o) =
     convNorm x x1 x2 x3 x4 (ix3 b p o) := by
  pointwise [k0_pay1, k0_pay2]
  simp only [hx, inv_n]
  rfl

/-- Where the windows of the first call stand at each grid point. -/
theorem idx0 : ∀ t : Fin grid0.N, win0_0.index t = ![t.val, 0, 0] ∧ win0_1.index t = ![0, 0] ∧ win0_2.index t = ![0, 0]
   ∧ win0_3.index t = ![0, 0] ∧ win0_4.index t = ![0, 0] ∧ win0_5.index t = ![t.val, 0, 0] := by decide +kernel

set_option maxHeartbeats 4000000 in
/-- The array the first call leaves is `convNorm`, image by image. -/
theorem arr0 (c : Dev nD) : (dat0 V c).arrAt 5 cfg0.N =
    convNorm (V c main_v0) (V c main_arg5) (V c main_cst) (V c main_v1) (V c main_v2) := by
  refine (dat0 V c).arrAt_eq_of_covers 5 _ (by decide +kernel) fun t hf y => ?_
  blk_simp
  rw [after0_5]
  frame_out
  idx_vars y
  have ht : t.val < 4 := lt_of_lt_of_eq t.isLt N_0
  have e0 : ∀ k p, iblk0 V c 0 t (ix3 0 k p) = V c main_v0 (ix3 ⟨t.val, ht⟩ k p) := fun k p => by
    blk_ext [iblk0, idx0 t]
  have e1 : iblk0 V c 1 t = V c main_arg5 := by funext j; blk_ext [iblk0, idx0 t]
  have e2 : iblk0 V c 2 t = V c main_cst := by funext j; blk_ext [iblk0, idx0 t]
  have e3 : iblk0 V c 3 t = V c main_v1 := by funext j; blk_ext [iblk0, idx0 t]
  have e4 : iblk0 V c 4 t = V c main_v2 := by funext j; blk_ext [iblk0, idx0 t]
  rw [e1, e2, e3, e4]
  generalize hi : (((View.whole main_v3).slice (win0_5.rect t)).emb (ix3 y0 y1 y2)) = i
  have h0 : i 0 = ⟨t.val, ht⟩ := by subst hi; apply Fin.ext; blk_ext [idx0 t]
  have h1 : i 1 = y1 := by subst hi; apply Fin.ext; blk_ext [idx0 t]
  have h2 : i 2 = y2 := by subst hi; apply Fin.ext; blk_ext [idx0 t]
  refine (pay0 _ _ _ _ _ _ _ _ _ _ e0).trans ?_
  show convNorm _ _ _ _ _ _ = convNorm _ _ _ _ _ _
  unfold convNorm
  rw [h0, h1, h2]
  rfl

end Cert.KernelIdeal.ConvNorm

end
-- ==== Proof.Algebra.lean ====
/-
  Facts about the extended reals that the equation rests on: a division by a square root as a product with the
  reciprocal square root, a division by e^t as a product with e^(-t) at a real t, a mean of squares less the square
  of the mean, and a positive divisor carried out of a sum.
-/
module

public import Idealize.ShloMosaic.PureOps.Ideal
public import Idealize.ShloMosaic.PureOps.Ideal.Laws

@[expose] public section

noncomputable section

namespace Cert.Algebra

open Idealize.ShloMosaic

/-- Over a positive `v`, multiplying by `1/√v` is dividing by `√v`; at `v = ⊤` both are zero. -/
theorem mul_rsqrt (a v : EReal) (hv : 0 < v) : a * Ideal.rsqrt v = Ideal.div a (Ideal.sqrt v) := by
  induction v with
  | bot => exact absurd hv (by simp)
  | top => simp [Ideal.div]
  | coe r =>
    have hr : 0 < r := by exact_mod_cast hv
    have hs : Real.sqrt r ≠ 0 := (Real.sqrt_pos.mpr hr).ne'
    rw [Ideal.rsqrt_coe, Ideal.sqrt_coe, if_neg (not_lt.mpr hr.le), if_neg hr.ne', if_neg (not_lt.mpr hr.le),
      Ideal.div_coe hs, one_div]

/-- At a real `t`, multiplying by `e^(-t)` is dividing by `e^t`. -/
theorem mul_exp_neg (a : EReal) (t : ℝ) : a * Ideal.exp (-(t : EReal)) = Ideal.div a (Ideal.exp t) := by
  rw [← EReal.coe_neg, Ideal.exp_coe, Ideal.exp_coe, Ideal.div_coe (Real.exp_pos t).ne', Real.exp_neg, one_div]

/-- A square is not negative. -/
theorem mul_self_nonneg (x : EReal) : 0 ≤ x * x := by
  rcases le_total 0 x with h | h
  · exact EReal.mul_nonneg h h
  · rw [← neg_mul_neg]
    exact EReal.mul_nonneg (EReal.neg_nonneg.mpr h) (EReal.neg_nonneg.mpr h)

/-- Dividing by a positive real is multiplying by a number that is neither negative nor infinite. -/
theorem div_eq_mul (c : EReal) (hc : 0 < c) : ∃ k : EReal, 0 ≤ k ∧ k ≠ ⊤ ∧ ∀ x, Ideal.div x c = x * k :=
  ⟨c⁻¹, EReal.inv_nonneg_of_nonneg hc.le, (EReal.inv_lt_top c).ne, fun x => by rw [Ideal.div, if_neg hc.ne']⟩

/-- A quotient of something not negative by something positive is not negative. -/
theorem div_nonneg {x c : EReal} (hx : 0 ≤ x) (hc : 0 < c) : 0 ≤ Ideal.div x c := by
  obtain ⟨k, hk, -, h⟩ := div_eq_mul c hc
  rw [h]; exact EReal.mul_nonneg hx hk

/-- A sum of terms that are not negative is not negative. -/
theorem sum_nonneg {ι : Type*} (s : Finset ι) (f : ι → EReal) (h : ∀ i, 0 ≤ f i) : 0 ≤ ∑ i ∈ s, f i :=
  Finset.sum_nonneg fun i _ => h i

/-- A positive divisor comes out of a sum. -/
theorem sum_div {ι : Type*} (s : Finset ι) (f : ι → EReal) (c : EReal) (hc : 0 < c) :
    ∑ i ∈ s, Ideal.div (f i) c = Ideal.div (∑ i ∈ s, f i) c := by
  obtain ⟨k, hk, hk', h⟩ := div_eq_mul c hc
  simp only [h]
  classical
  induction s using Finset.induction_on with
  | empty => simp
  | insert a s ha ih => rw [Finset.sum_insert ha, Finset.sum_insert ha, ih, EReal.right_distrib_of_nonneg_of_ne_top hk hk']

/-- A sum of reals, taken among the extended reals. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The mean of the squares less the square of the mean is the mean of the squared distances from the mean. -/
theorem mean_sq_sub {ι : Type*} [Fintype ι] (f : ι → ℝ) (n : ℝ) (hn : n = Fintype.card ι) (h0 : n ≠ 0) :
    (∑ i, f i * f i) / n - ((∑ i, f i) / n) * ((∑ i, f i) / n)
      = (∑ i, (f i - (∑ i, f i) / n) * (f i - (∑ i, f i) / n)) / n := by
  have e : ∀ μ : ℝ, ∑ i, (f i - μ) * (f i - μ) = ∑ i, f i * f i - 2 * μ * ∑ i, f i + n * (μ * μ) := by
    intro μ
    rw [hn, Finset.mul_sum, ← nsmul_eq_mul, ← Finset.card_univ, ← Finset.sum_const, ← Finset.sum_sub_distrib, ← Finset.sum_add_distrib]
    exact Finset.sum_congr rfl fun i _ => by ring
  rw [e]
  field_simp
  ring

end Cert.Algebra

end
-- ==== Proof.NormEq.lean ====
/-
  The kernel's group normalisation is the reference's.

  The kernel takes a group's mean by a product with an averaging matrix, and its variance as the mean of the squares
  less the square of the mean; the reference sums over the group and takes the mean of the squared distances. For a
  finite convolution both are the same numbers.
-/
module

public import proofs.«01_k».proof.Proof.RefNorm
public import proofs.«01_k».proof.Proof.ConvNorm
public import proofs.«01_k».proof.Proof.Algebra
public import proofs.«01_k».proof.Proof.Consts

@[expose] public section

set_option maxHeartbeats 4000000
set_option maxRecDepth 16384

noncomputable section

namespace Cert.NormEq

open Idealize.ShloMosaic Idealize.ShloMosaic.TcCoe
open Cert.ReferenceIdeal.Norm (grouped groupOf normed active)
open Cert.KernelIdeal.ConvNorm (groupMean groupNorm convNorm)
open Cert.ReferenceIdeal

/-- A sum over the channels, group by group. -/
theorem sum_groups (F : Fin 128 → ℝ) : ∑ c, F c = ∑ g : Fin 32, ∑ q : Fin 4, F ⟨g.val * 4 + q.val, by omega⟩ := by
  rw [← Fintype.sum_prod_type' (f := fun (g : Fin 32) (q : Fin 4) => F ⟨g.val * 4 + q.val, by omega⟩)]
  refine (Fintype.sum_equiv (finProdFinEquiv : Fin 32 × Fin 4 ≃ Fin 128) _ _ fun z => ?_).symm
  refine congrArg F (Fin.ext ?_)
  show z.1.val * 4 + z.2.val = z.2.val + 4 * z.1.val
  omega

/-- A sum over the pixels, row by row. -/
theorem sum_pixels (F : Fin 784 → ℝ) : ∑ p, F p = ∑ y : Fin 28, ∑ x : Fin 28, F ⟨y.val * 28 + x.val, by omega⟩ := by
  rw [← Fintype.sum_prod_type' (f := fun (y : Fin 28) (x : Fin 28) => F ⟨y.val * 28 + x.val, by omega⟩)]
  refine (Fintype.sum_equiv (finProdFinEquiv : Fin 28 × Fin 28 ≃ Fin 784) _ _ fun z => ?_).symm
  refine congrArg F (Fin.ext ?_)
  show z.1.val * 28 + z.2.val = z.2.val + 28 * z.1.val
  omega

/-- The sum of a group's four channels over all pixels. -/
def total (f : Fin 784 → Fin 128 → ℝ) (g : Fin 32) : ℝ := ∑ q : Fin 4, ∑ p, f p ⟨g.val * 4 + q.val, by omega⟩

/-- The averaging matrix: a quarter inside a group, zero outside. -/
def Averaging (G : Vec Ideal KernelIdeal.S128x128 .f32) : Prop :=
  ∀ a b : Fin 128, G (ix2 a b) = if a.val / 4 = b.val / 4 then Ideal.ofBits .f32 0x3E800000#32 else 0

/-- The kernel's mean of a group of finite numbers. -/
theorem groupMean_coe (G : Vec Ideal KernelIdeal.S128x128 .f32) (hG : Averaging G) (f : Fin 784 → Fin 128 → ℝ) (o : Fin 128) :
    groupMean ((1/784 : ℝ) : EReal) G (fun p c => (f p c : EReal)) o = ((total f (groupOf o) / 3136 : ℝ) : EReal) := by
  have e : ∀ c : Fin 128, (∑ p, (f p c : EReal)) * ((1/784 : ℝ) : EReal) * G (ix2 c o)
      = (((∑ p, f p c) * (1/784) * (if c.val / 4 = o.val / 4 then 1/4 else 0) : ℝ) : EReal) := fun c => by
    rw [hG, Algebra.sum_coe, ← EReal.coe_mul]
    split_ifs
    · rw [Consts.word_quarter, ← EReal.coe_mul]
    · rw [mul_zero, mul_zero, EReal.coe_zero]
  unfold groupMean
  simp only [e]
  rw [Algebra.sum_coe, sum_groups]
  refine congrArg _ ?_
  have e2 : ∀ (g : Fin 32) (q : Fin 4), (g.val * 4 + q.val) / 4 = g.val := fun g q => by omega
  have e3 : ∀ g : Fin 32, (g.val = o.val / 4) = (g = groupOf o) := fun g => propext ⟨fun h => Fin.ext h, fun h => congrArg Fin.val h⟩
  simp only [e2, e3, mul_ite, mul_zero]
  have e4 : ∀ g : Fin 32, (∑ q : Fin 4, if g = groupOf o then (∑ p, f p ⟨g.val * 4 + q.val, by omega⟩) * (1/784) * (1/4) else 0)
      = if g = groupOf o then (∑ q : Fin 4, (∑ p, f p ⟨g.val * 4 + q.val, by omega⟩) * (1/784) * (1/4)) else 0 := fun g => by
    split_ifs <;> simp
  simp only [e4]
  rw [Finset.sum_ite_eq' Finset.univ (groupOf o), if_pos (Finset.mem_univ _), ← Finset.sum_mul, ← Finset.sum_mul]
  unfold total
  ring

variable (x0 : Vec Ideal S4x256x28x28 .f32) (x5 : Vec Ideal S128x256 .f32) (x6 x7 : Vec Ideal S128 .f32)

/-- The reference's sum over a group, for finite numbers. -/
theorem sum_group (F : Fin 4 → Fin 28 → Fin 28 → EReal) (f : Fin 784 → Fin 4 → ℝ)
    (h : ∀ q y x, F q y x = (f ⟨y.val * 28 + x.val, by omega⟩ q : EReal)) :
    ∑ q, ∑ y, ∑ x, F q y x = ((∑ q, ∑ p, f p q : ℝ) : EReal) := by
  simp only [h, Algebra.sum_coe]
  refine congrArg _ (Finset.sum_congr rfl fun q _ => ?_)
  exact (sum_pixels fun p => f p q).symm

/-- The mean of squares identity for a group. -/
theorem var_group (f : Fin 784 → Fin 4 → ℝ) :
    (∑ q, ∑ p, f p q * f p q) / 3136 - ((∑ q, ∑ p, f p q) / 3136) * ((∑ q, ∑ p, f p q) / 3136)
      = (∑ q, ∑ p, (f p q - (∑ q, ∑ p, f p q) / 3136) * (f p q - (∑ q, ∑ p, f p q) / 3136)) / 3136 := by
  have h := Algebra.mean_sq_sub (ι := Fin 4 × Fin 784) (fun z => f z.2 z.1) 3136 (by simp) (by norm_num)
  simpa only [Fintype.sum_prod_type] using h

/-- The two normalisations of a finite convolution agree. -/
theorem norm_eq (G : Vec Ideal KernelIdeal.S128x128 .f32) (hG : Averaging G) (g b : Vec Ideal KernelIdeal.S1x128 .f32) (hg : ∀ o, g (ix2 0 o) = x6 (ix1 o))
    (hb : ∀ o, b (ix2 0 o) = x7 (ix1 o)) (n : Fin 4) (f : Fin 784 → Fin 128 → ℝ)
    (hf : ∀ (o : Fin 128) (y x : Fin 28), Norm.conv x0 x5 n o y x = (f ⟨y.val * 28 + x.val, by omega⟩ o : EReal)) (o : Fin 128) (y x : Fin 28) :
    groupNorm ((1/784 : ℝ) : EReal) (Ideal.ofBits .f32 0x3727C5AC#32) G (fun p c => (f p c : EReal)) g b ⟨y.val * 28 + x.val, by omega⟩ o
      = normed x0 x5 x6 x7 n o y x := by
  obtain ⟨e, he, hew⟩ := Consts.word_eps
  have hm : Norm.mean x0 x5 n (groupOf o) = ((total f (groupOf o) / 3136 : ℝ) : EReal) := by
    unfold Norm.mean
    rw [sum_group _ (fun p q => f p ⟨(groupOf o).val * 4 + q.val, by omega⟩) (fun q y x => by unfold grouped; exact hf _ y x), Consts.word_3136,
      Ideal.div_coe (by norm_num), ← EReal.coe_mul]
    refine congrArg _ ?_
    unfold total
    ring
  have hv : Norm.var x0 x5 n (groupOf o) = ((total (fun p c => f p c * f p c) (groupOf o) / 3136
      - (total f (groupOf o) / 3136) * (total f (groupOf o) / 3136) : ℝ) : EReal) := by
    unfold Norm.var
    rw [hm, sum_group _ (fun p q => (f p ⟨(groupOf o).val * 4 + q.val, by omega⟩ - total f (groupOf o) / 3136)
      * (f p ⟨(groupOf o).val * 4 + q.val, by omega⟩ - total f (groupOf o) / 3136))
      (fun q y x => by unfold grouped; rw [hf, ← EReal.coe_sub, ← EReal.coe_mul]), Consts.word_3136,
      Ideal.div_coe (by norm_num), ← EReal.coe_mul]
    refine congrArg _ ?_
    refine Eq.trans ?_ (var_group fun p q => f p ⟨(groupOf o).val * 4 + q.val, by omega⟩).symm
    unfold total
    ring
  have hp : 0 ≤ total (fun p c => f p c * f p c) (groupOf o) / 3136 - (total f (groupOf o) / 3136) * (total f (groupOf o) / 3136) := by
    refine le_of_le_of_eq ?_ (var_group fun p q => f p ⟨(groupOf o).val * 4 + q.val, by omega⟩).symm
    refine div_nonneg (Finset.sum_nonneg fun q _ => Finset.sum_nonneg fun p _ => _root_.mul_self_nonneg _) (by norm_num)
  have hv2 : ((total (fun p c => f p c * f p c) (groupOf o) / 3136 : ℝ) : EReal) - ((total f (groupOf o) / 3136 : ℝ) : EReal) * ((total f (groupOf o) / 3136 : ℝ) : EReal)
      = ((total (fun p c => f p c * f p c) (groupOf o) / 3136 - (total f (groupOf o) / 3136) * (total f (groupOf o) / 3136) : ℝ) : EReal) := by
    rw [← EReal.coe_mul, ← EReal.coe_sub]
  have hpos : 0 < ((total (fun p c => f p c * f p c) (groupOf o) / 3136 - (total f (groupOf o) / 3136) * (total f (groupOf o) / 3136) : ℝ) : EReal) + (e : EReal) := by
    rw [← EReal.coe_add]
    exact_mod_cast add_pos_of_nonneg_of_pos hp he
  unfold groupNorm normed
  have hs : ∀ p c, ((f p c : EReal)) * (f p c : EReal) = ((f p c * f p c : ℝ) : EReal) := fun p c => (EReal.coe_mul _ _).symm
  simp only [hs]
  rw [hm, hv, hf, groupMean_coe G hG f o, groupMean_coe G hG (fun p c => f p c * f p c) o, hv2, hg, hb, hew,
    Algebra.mul_rsqrt _ _ hpos]

/-- The first call's array holds the reference's activated values. -/
theorem active_eq (X : Vec Ideal KernelIdeal.S4x256x784 .f32) (hX : ∀ b k (y x : Fin 28), X (ix3 b k ⟨y.val * 28 + x.val, by omega⟩) = x0 (ix4 b k y x))
    (G : Vec Ideal KernelIdeal.S128x128 .f32) (hG : Averaging G) (g b : Vec Ideal KernelIdeal.S1x128 .f32) (hg : ∀ o, g (ix2 0 o) = x6 (ix1 o))
    (hb : ∀ o, b (ix2 0 o) = x7 (ix1 o)) (h0 : ∀ i, ∃ r : ℝ, x0 i = r) (h5 : ∀ i, ∃ r : ℝ, x5 i = r) (n : Fin 4) (o : Fin 128) (y x : Fin 28) :
    convNorm X x5 G g b (ix3 n ⟨y.val * 28 + x.val, by omega⟩ o) = active x0 x5 x6 x7 n o y x := by
  choose r0 hr0 using h0
  choose r5 hr5 using h5
  have hc : ∀ (o : Fin 128) (y x : Fin 28), Norm.conv x0 x5 n o y x = ((∑ k, r5 (ix2 o k) * r0 (ix4 n k y x) : ℝ) : EReal) := fun o y x => by
    unfold Norm.conv
    simp only [hr0, hr5, ← EReal.coe_mul, Algebra.sum_coe]
  have hk : KernelIdeal.ConvNorm.conv X x5 n = fun p c => ((∑ k, r5 (ix2 c k) * r0 (ix4 n k ⟨p.val / 28, by omega⟩ ⟨p.val % 28, by omega⟩) : ℝ) : EReal) := by
    funext p c
    rw [← hc]
    unfold KernelIdeal.ConvNorm.conv Norm.conv
    refine Finset.sum_congr rfl fun k _ => ?_
    rw [← hX, mul_comm]
    refine congrArg₂ (fun a b : EReal => a * b) rfl (congrArg (fun p => X (ix3 n k p)) (Fin.ext ?_))
    exact (Nat.div_add_mod' p.val 28).symm
  have h := norm_eq x0 x5 x6 x7 G hG g b hg hb n
    (fun p c => ∑ k, r5 (ix2 c k) * r0 (ix4 n k ⟨p.val / 28, by omega⟩ ⟨p.val % 28, by omega⟩))
    (fun o y x => (hc o y x).trans (congrArg _ (Finset.sum_congr rfl fun k _ =>
      congrArg₂ (fun y x => r5 (ix2 o k) * r0 (ix4 n k y x)) (Fin.ext (by show y.val = (y.val * 28 + x.val) / 28; omega))
        (Fin.ext (by show x.val = (y.val * 28 + x.val) % 28; omega))))) o y x
  unfold convNorm active
  rw [← h, ← hk]
  rfl

end Cert.NormEq

end
-- ==== Proof.RefUp.lean ====
/-
  What the reference's upsampling computes.

  The reference upsamples rows and columns with triangle weights, each divided by their sum. The weights are whole
  sixteenths: `weight o i` is the weight of input line `i` for output line `o`, as the kernel's tables hold it.
-/
module

public import proofs.«01_k».proof.Proof.RefNorm
public import proofs.«01_k».proof.Proof.Geometry
public import proofs.«01_k».proof.Proof.Algebra
public import proofs.«01_k».proof.Proof.Consts

@[expose] public section

set_option maxHeartbeats 4000000
set_option maxRecDepth 16384

noncomputable section

namespace Cert.ReferenceIdeal.Upsample

open Idealize.ShloMosaic Idealize.ShloMosaic.TcCoe
open Cert.ReferenceIdeal Cert.ReferenceIdeal.Read Cert.ReferenceIdeal.Norm Cert.ReferenceIdeal.Geometry Cert.Consts
variable (x0 : Vec Ideal S4x256x28x28 .f32) (x5 : Vec Ideal S128x256 .f32) (x6 x7 : Vec Ideal S128 .f32)

/-- The weight of input line `i` for output line `o`. -/
def weight (o : Fin 224) (i : Fin 28) : EReal := Ideal.ofBits .f32 (sixteenth (weight16 o.val i.val))

/-- The rows upsampled. -/
def rows (b : Fin 4) (o : Fin 128) (Y : Fin 224) (x : Fin 28) : EReal := ∑ y : Fin 28, weight Y y * active x0 x5 x6 x7 b o y x

/-- The features: rows and columns upsampled. -/
def feature (b : Fin 4) (Y X : Fin 224) (o : Fin 128) : EReal := ∑ x : Fin 28, weight X x * rows x0 x5 x6 x7 b o Y x

/-- A line's number read back from its word. -/
theorem line224 : ∀ o : Fin 224, (BitVec.ofNat 32 o.val).toInt = (o.val : ℤ) := by decide +kernel
/-- Read as words, the 28 input positions are the numbers they count. -/
theorem line28 : ∀ i : Fin 28, (BitVec.ofNat 32 i.val).toInt = (i.val : ℤ) := by decide +kernel

/-- The triangle kernel in real numbers. -/
theorem tri_real (o i : ℕ) : max (1 - |((o : ℝ) + 1 / 2) * (1 / 8) - 1 / 2 - i|) 0 = (tri o i : ℝ) / 16 := by
  have hs : ∀ a b : ℕ, ((a - b : ℕ) : ℝ) = max ((a : ℝ) - b) 0 := fun a b => by
    rcases le_total b a with h | h
    · rw [Nat.cast_sub h, max_eq_left (by rw [sub_nonneg]; exact_mod_cast h)]
    · rw [Nat.sub_eq_zero_of_le h, max_eq_right (by rw [sub_nonpos]; exact_mod_cast h), Nat.cast_zero]
  have hx : ((o : ℝ) + 1 / 2) * (1 / 8) - 1 / 2 - i = (2 * (o : ℝ) - 7 - 16 * i) / 16 := by ring
  unfold tri
  rw [hs, Nat.cast_natAbs, hx, abs_div, abs_of_pos (by norm_num : (0 : ℝ) < 16)]
  push_cast
  rw [← max_div_div_right (by norm_num : (0 : ℝ) ≤ 16), zero_div, sub_div]
  norm_num

/-- The reference's raw weights. -/
theorem raw_at (Y : Fin 224) (y : Fin 28) : val_main_v137 (F := Ideal) (ix2 Y y) = ((tri Y.val y.val / 16 : ℝ) : EReal) := by
  pointwise [val_main_v120, val_main_cst_14, val_main_v121, val_main_v122, val_main_cst_15, val_main_v123, val_main_v124, val_main_cst_16, val_main_v125, val_main_v126, val_main_v127, val_main_v128, val_main_v129, val_main_v130, val_main_v131, val_main_v132, val_main_v133, val_main_cst_17, val_main_v134, val_main_v135, val_main_cst_18, val_main_v136, val_main_v137]
  show max (1 - max _ (-_)) 0 = _
  rw [word_half, word_eighth]
  have h1 : (FloatOps.sitofp FTy.f32 (BitVec.ofNat 32 Y.val) : Ideal .f32) = ((Y.val : ℝ) : EReal) := by
    show (((BitVec.ofNat 32 Y.val).toInt : ℝ) : EReal) = _
    rw [line224, Int.cast_natCast]
  have h2 : (FloatOps.sitofp FTy.f32 (BitVec.ofNat 32 y.val) : Ideal .f32) = ((y.val : ℝ) : EReal) := by
    show (((BitVec.ofNat 32 y.val).toInt : ℝ) : EReal) = _
    rw [line28, Int.cast_natCast]
  rw [h1, h2, ← tri_real, ← EReal.coe_add, ← EReal.coe_mul, ← EReal.coe_sub, ← EReal.coe_sub, ← EReal.coe_neg, ← EReal.coe_strictMono.monotone.map_max,
    ← EReal.coe_one, ← EReal.coe_sub, ← EReal.coe_zero, ← EReal.coe_strictMono.monotone.map_max]
  rfl

/-- The reference's weights. -/
theorem weight_at (Y : Fin 224) (y : Fin 28) : val_main_v141 (F := Ideal) (ix2 Y y) = weight Y y := by
  obtain ⟨h0, h1, h2⟩ := weight16_spec Y y
  have hz : (triSum Y.val : ℝ) ≠ 0 := Nat.cast_ne_zero.mpr h0
  have h1' : (weight16 Y.val y.val : ℝ) * triSum Y.val = 16 * tri Y.val y.val := by exact_mod_cast h1
  have hsum : ∑ i : Fin 28, ((tri Y.val i.val / 16 : ℝ)) = (triSum Y.val : ℝ) / 16 := by
    unfold triSum
    rw [Nat.cast_sum, Finset.sum_div]
  pointwise [val_main_cst_19, val_main_v138, val_main_v139, val_main_v140, val_main_v141]
  simp only [raw_at]
  rw [Algebra.sum_coe, hsum, Ideal.div_coe (div_ne_zero hz (by norm_num)), ← EReal.coe_mul, weight, sixteenth_eq _ h2]
  refine congrArg _ ?_
  field_simp
  linarith

/-- The column weights are the row weights. -/
theorem columns : val_main_v165 (F := Ideal) = val_main_v141 (F := Ideal) := rfl

/-- The reference's upsampled rows. -/
theorem rows_at (b : Fin 4) (o : Fin 128) (Y : Fin 224) (x : Fin 28) :
    val_main_v143 (F := Ideal) x0 x5 x6 x7 (ix4 b o Y x) = rows x0 x5 x6 x7 b o Y x := by
  pointwise [val_main_v142, val_main_v143]
  simp only [weight_at, active_at]
  rfl

/-- The reference's features. -/
theorem feature_at (N : Fin 200704) (o : Fin 128) : val_main_v169 (F := Ideal) x0 x5 x6 x7 (ix2 N o)
    = feature x0 x5 x6 x7 (imageAt N) (rowAt (pixelAt N)) (colAt (pixelAt N)) o := by
  pointwise [val_main_v166, val_main_v167, val_main_v168, val_main_v169]
  simp only [columns, weight_at, rows_at]
  unfold feature
  refine Finset.sum_congr rfl fun x _ => ?_
  rw [mul_comm]
  rfl

end Cert.ReferenceIdeal.Upsample

end
-- ==== Proof.RefLogit.lean ====
/-
  What the reference's attention logits are.

  The reference normalises a pixel's features over the channels, takes their product with the attention weights, adds
  the bias and divides by the temperature. Dividing by the square root and by the exponential is what the kernel's
  `Pixel.logitOf` writes as products, the temperature being finite.
-/
module

public import proofs.«01_k».proof.Proof.Gen.ReferenceIdeal.Read
public import proofs.«01_k».proof.Proof.Pixel
public import proofs.«01_k».proof.Proof.Algebra
public import proofs.«01_k».proof.Proof.Consts
public import Idealize.ShloMosaic.Lib.Pointwise

@[expose] public section

set_option maxHeartbeats 4000000
set_option maxRecDepth 16384

noncomputable section

namespace Cert.ReferenceIdeal.Logits

open Idealize.ShloMosaic Idealize.ShloMosaic.TcCoe
open Cert.ReferenceIdeal Cert.ReferenceIdeal.Read
open Cert.KernelIdeal.Pixel
variable (x0 : Vec Ideal S4x256x28x28 .f32) (x5 : Vec Ideal S128x256 .f32) (x6 x7 : Vec Ideal S128 .f32) (x8 : Vec Ideal S_ .f32) (x9 x10 : Vec Ideal S128 .f32) (x11 : Vec Ideal S128x1 .f32) (x12 : Vec Ideal S1 .f32)

/-- A pixel's features. -/
abbrev feat (N : Fin 200704) (c : Fin 128) : EReal := val_main_v169 (F := Ideal) x0 x5 x6 x7 (ix2 N c)

/-- The mean of a pixel's features. -/
theorem mean_at (N : Fin 200704) : val_main_v173 (F := Ideal) x0 x5 x6 x7 (ix2 N 0) = mean (feat x0 x5 x6 x7 N) := by
  pointwise [val_main_cst_26, val_main_v170, val_main_v171, val_main_cst_27, val_main_v172, val_main_v173]
  rfl

/-- A feature less its pixel's mean. -/
theorem centred_at (N : Fin 200704) (c : Fin 128) : val_main_v175 (F := Ideal) x0 x5 x6 x7 (ix2 N c)
    = feat x0 x5 x6 x7 N c - mean (feat x0 x5 x6 x7 N) := by
  have e : idx_main_v174 (ix2 N c) = ix2 N 0 := by
    funext a
    match a with
    | ⟨0, _⟩ => rfl
    | ⟨1, _⟩ => rfl
  rw [val_main_v175_apply, val_main_v174_apply, e, mean_at]
  rfl

/-- Its square. -/
theorem square_at (N : Fin 200704) (c : Fin 128) : val_main_v176 (F := Ideal) x0 x5 x6 x7 (ix2 N c)
    = (feat x0 x5 x6 x7 N c - mean (feat x0 x5 x6 x7 N)) * (feat x0 x5 x6 x7 N c - mean (feat x0 x5 x6 x7 N)) := by
  rw [val_main_v176_apply, centred_at]
  rfl

/-- The mean square. -/
theorem var_at (N : Fin 200704) : val_main_v180 (F := Ideal) x0 x5 x6 x7 (ix2 N 0) = var (feat x0 x5 x6 x7 N) := by
  have h : val_main_v180 (F := Ideal) x0 x5 x6 x7 (ix2 N 0)
      = Ideal.div (∑ c, val_main_v176 (F := Ideal) x0 x5 x6 x7 (ix2 N c)) (Ideal.ofBits .f32 0x43000000#32) := by
    pointwise [val_main_cst_28, val_main_v177, val_main_v178, val_main_cst_29, val_main_v179, val_main_v180]
  rw [h]
  simp only [square_at]
  rfl

/-- The variance with the small constant added is positive. -/
theorem var_pos (f : Fin 128 → EReal) : 0 < var f + Ideal.ofBits .f32 0x3727C5AC#32 := by
  obtain ⟨e, he, hw⟩ := Consts.word_eps
  have h : 0 ≤ var f := by
    refine Algebra.div_nonneg (Algebra.sum_nonneg _ _ fun c => Algebra.mul_self_nonneg _) ?_
    rw [Consts.word_128]
    exact_mod_cast (by norm_num : (0 : ℝ) < 128)
  rw [hw]
  exact lt_of_lt_of_le (by exact_mod_cast he : (0 : EReal) < e) (le_add_of_nonneg_left h)

/-- The normalised feature, scaled and shifted. -/
theorem normed_at (N : Fin 200704) (c : Fin 128) : val_main_v193 (F := Ideal) x0 x5 x6 x7 x9 x10 (ix2 N c)
    = (feat x0 x5 x6 x7 N c - mean (feat x0 x5 x6 x7 N)) * Ideal.rsqrt (var (feat x0 x5 x6 x7 N) + Ideal.ofBits .f32 0x3727C5AC#32)
      * x9 (ix1 c) + x10 (ix1 c) := by
  have e1 : idx_main_v181 (ix2 N c) = ix2 N 0 := by
    funext a
    match a with
    | ⟨0, _⟩ => rfl
    | ⟨1, _⟩ => rfl
  have e2 : idx_main_v186 (ix2 N c) = ix2 N 0 := by
    funext a
    match a with
    | ⟨0, _⟩ => rfl
    | ⟨1, _⟩ => rfl
  have h9 : val_main_v189 (F := Ideal) x9 (ix2 N c) = x9 (ix1 c) := by pointwise [val_main_v189, val_main_v188]
  have h10 : val_main_v192 (F := Ideal) x10 (ix2 N c) = x10 (ix1 c) := by pointwise [val_main_v192, val_main_v191]
  have hs : val_main_v185 (F := Ideal) x0 x5 x6 x7 (ix2 N 0) = Ideal.sqrt (var (feat x0 x5 x6 x7 N) + Ideal.ofBits .f32 0x3727C5AC#32) := by
    have h3 : val_main_v183 (F := Ideal) (ix2 N 0) = Ideal.ofBits .f32 0x3727C5AC#32 := by pointwise [val_main_v183, val_main_cst_30]
    rw [val_main_v185_apply, val_main_v184_apply, var_at, h3]
    rfl
  rw [Algebra.mul_rsqrt _ _ (var_pos _), val_main_v193_apply, val_main_v190_apply, val_main_v187_apply, val_main_v182_apply, val_main_v181_apply,
    val_main_v186_apply, e1, e2, mean_at, hs, h9, h10]
  rfl

/-- The reference's logits, the temperature finite. -/
theorem logit_at (h8 : ∃ r : ℝ, x8 ix0 = r) (N : Fin 200704) : val_main_v200 (F := Ideal) x0 x5 x6 x7 x8 x9 x10 x11 x12 (ix2 N 0)
    = logitOf (feat x0 x5 x6 x7 N) (fun c => x9 (ix1 c)) (fun c => x10 (ix1 c)) (fun c => x11 (ix2 c 0)) (x12 (ix1 0))
      (Ideal.exp (-(x8 ix0))) := by
  obtain ⟨r, hr⟩ := h8
  have h4 : val_main_v194 (F := Ideal) x0 x5 x6 x7 x9 x10 x11 (ix2 N 0)
      = ∑ c : Fin 128, val_main_v193 (F := Ideal) x0 x5 x6 x7 x9 x10 (ix2 N c) * x11 (ix2 c 0) := by
    pointwise [val_main_v194]
  have h6 : val_main_v196 (F := Ideal) x12 (ix2 N 0) = x12 (ix1 0) := by pointwise [val_main_v196, val_main_v195]
  have h9 : val_main_v199 (F := Ideal) x8 (ix2 N 0) = Ideal.exp (x8 ix0) := by pointwise [val_main_v199, val_main_v198]
  rw [val_main_v200_apply, val_main_v197_apply, h4, h6, h9]
  simp only [normed_at]
  unfold logitOf
  rw [hr, Algebra.mul_exp_neg]
  rfl

end Cert.ReferenceIdeal.Logits

end
-- ==== Proof.RowUp.lean ====
/-
  What the second call's array holds: the row upsampling of its operand (`rowUp`).
-/
module

public import proofs.«01_k».proof.Proof.ConvNorm

@[expose] public section

set_option maxHeartbeats 4000000
set_option maxRecDepth 16384

noncomputable section

namespace Cert.KernelIdeal.RowUp

open Idealize.ShloMosaic Idealize.ShloMosaic.TcCoe Idealize.SL.Sem
open Idealize.ShloMosaic.Pipeline (Dat)
open Cert.KernelIdeal Cert.KernelIdeal.Gen Cert.KernelIdeal.ConvNorm

variable (V : (c : Dev nD) → (b : Ref sig .tc) → Buf (Elt Ideal) ((c : Thread nD τ).loc b))

/-- The second call's result: line `i 1` of an image is its 28 lines weighted by a row of the table. -/
def rowUp (R : Vec Ideal S224x28 .f32) (x : Vec Ideal S4x28x3584 .f32) : Vec Ideal S4x224x3584 .f32 :=
  fun i => ∑ y : Fin 28, R (ix2 (i 1) y) * x (ix3 (i 0) y (i 2))

/-- The second call's array, from its operands' arrays. -/
theorem arr1 (c : Dev nD) : (dat1 V c).arrAt 2 cfg1.N = rowUp (V c main_cst_0) (V c main_v4) := by
  refine (dat1 V c).arrAt_eq_of_covers 2 _ (by decide +kernel) fun t hf y => ?_
  blk_simp
  rw [after1_2]
  frame_out
  idx_vars y
  pointwise [k1_pay1, rowUp]
  refine Finset.sum_congr (M := EReal) rfl fun k _ => ?_
  refine congrArg₂ (fun a b : EReal => a * b) ?_ ?_ <;> blk_ext [iblk1, idx1 t]

end Cert.KernelIdeal.RowUp

end
-- ==== Proof.Stages.lean ====
/-
  What the arrays hold up to the third call.

  The first call's array is the reference's activation, the second's its upsampled rows, and the third's four arrays
  are its features, logits, flags and voxel numbers, all of the argument arrays as they stood at the start.
-/
module

public import proofs.«01_k».proof.Proof.Host
public import proofs.«01_k».proof.Proof.NormEq
public import proofs.«01_k».proof.Proof.RefUp
public import proofs.«01_k».proof.Proof.RefLogit
public import proofs.«01_k».proof.Proof.Features
public import proofs.«01_k».proof.Proof.ConvNorm
public import proofs.«01_k».proof.Proof.Geometry
public import proofs.«01_k».proof.Proof.Blocks
public import proofs.«01_k».proof.Proof.RowUp

@[expose] public section

set_option maxHeartbeats 4000000
set_option maxRecDepth 16384

noncomputable section

namespace Cert.KernelIdeal.Stages

open Idealize.ShloMosaic Idealize.ShloMosaic.TcCoe
open Idealize.SL.Sem
open Cert.KernelIdeal Cert.KernelIdeal.Gen
open Cert.KernelIdeal.Pixel Cert.KernelIdeal.Features
open Cert.ReferenceIdeal.Geometry (params rowAt colAt imageAt pixelAt)
open Cert.ReferenceIdeal.Norm (active)
open Cert.ReferenceIdeal.Upsample (weight rows feature)

variable (m : (ℓ : Loc nD τ sig) → Buf (Elt Ideal) ℓ) (ρ : Dev nD → PrngReg) (c : Dev nD)

/-- Argument 0. -/
abbrev a0 : Vec Ideal S4x256x28x28 .f32 := m ((c : Thread nD τ).loc main_arg0)
/-- Argument 1. -/
abbrev a1 : Vec Ideal S4x224x224 .f32 := m ((c : Thread nD τ).loc main_arg1)
/-- Argument 2. -/
abbrev a2 : Vec Ideal S4x3x3 .f32 := m ((c : Thread nD τ).loc main_arg2)
/-- Argument 3. -/
abbrev a3 : Vec Ideal S4x4x4 .f32 := m ((c : Thread nD τ).loc main_arg3)
/-- Argument 4. -/
abbrev a4 : Vec Ideal S4 .f32 := m ((c : Thread nD τ).loc main_arg4)
/-- Argument 5. -/
abbrev a5 : Vec Ideal S128x256 .f32 := m ((c : Thread nD τ).loc main_arg5)
/-- Argument 6. -/
abbrev a6 : Vec Ideal S128 .f32 := m ((c : Thread nD τ).loc main_arg6)
/-- Argument 7. -/
abbrev a7 : Vec Ideal S128 .f32 := m ((c : Thread nD τ).loc main_arg7)
/-- Argument 8. -/
abbrev a8 : Vec Ideal S_ .f32 := m ((c : Thread nD τ).loc main_arg8)
/-- Argument 9. -/
abbrev a9 : Vec Ideal S128 .f32 := m ((c : Thread nD τ).loc main_arg9)
/-- Argument 10. -/
abbrev a10 : Vec Ideal S128 .f32 := m ((c : Thread nD τ).loc main_arg10)
/-- Argument 11. -/
abbrev a11 : Vec Ideal S128x1 .f32 := m ((c : Thread nD τ).loc main_arg11)
/-- Argument 12. -/
abbrev a12 : Vec Ideal S1 .f32 := m ((c : Thread nD τ).loc main_arg12)

/-- The first call's array. -/
theorem activation (h0 : ∀ i, ∃ r : ℝ, a0 m c i = r) (h5 : ∀ i, ∃ r : ℝ, a5 m c i = r) (b : Fin 4) (y x : Fin 28) (o : Fin 128) :
    (W2 m ρ c (Proc.devRef .tc main_v3) : Vec Ideal S4x784x128 .f32) (ix3 b ⟨y.val * 28 + x.val, by omega⟩ o)
      = active (a0 m c) (a5 m c) (a6 m c) (a7 m c) b o y x := by
  have e5 : (V1 m ρ c main_arg5 : Vec Ideal S128x256 .f32) = a5 m c := W1_args m ρ c main_arg5 (by decide)
  refine (congrFun ((W2_arr m ρ c 5).trans (ConvNorm.arr0 (V1 m ρ) c)) _).trans ?_
  rw [e5]
  exact NormEq.active_eq (a0 m c) (a5 m c) (a6 m c) (a7 m c) _ (Host.image (W0 m ρ c)) _ (Host.averaging (W0 m ρ c)) _ _
    (Host.gain (W0 m ρ c)) (Host.shift (W0 m ρ c)) h0 h5 b o y x

/-- The second call's array. -/
theorem rows_array (h0 : ∀ i, ∃ r : ℝ, a0 m c i = r) (h5 : ∀ i, ∃ r : ℝ, a5 m c i = r) (b : Fin 4) (Y : Fin 224) (x : Fin 28) (o : Fin 128) :
    (W4 m ρ c (Proc.devRef .tc main_v5) : Vec Ideal S4x224x3584 .f32) (ix3 b Y ⟨x.val * 128 + o.val, by omega⟩)
      = rows (a0 m c) (a5 m c) (a6 m c) (a7 m c) b o Y x := by
  have et : (W3 m ρ c (Proc.devRef .tc main_cst_0) : Vec Ideal S224x28 .f32) = W1 m ρ c (Proc.devRef .tc main_cst_0) :=
    (W3_of m ρ c main_cst_0 (by decide)).trans (W2_of m ρ c main_cst_0 (by decide))
  refine (congrFun ((W4_arr m ρ c 2).trans (RowUp.arr1 (V3 m ρ) c)) _).trans ?_
  refine Finset.sum_congr (M := EReal) rfl fun y _ => ?_
  exact congrArg₂ (· * ·) ((congrFun et _).trans (Host.row_table (W0 m ρ c) Y y))
    ((Host.lines (W2 m ρ c) b y x o).trans (activation m ρ c h0 h5 b y x o))

/-- The upsampled rows, as the third call reads them. -/
theorem rows_blocks (h0 : ∀ i, ∃ r : ℝ, a0 m c i = r) (h5 : ∀ i, ∃ r : ℝ, a5 m c i = r) (g : Fin 112) (k : Fin 8) (x : Fin 28) (o : Fin 128) :
    (W5 m ρ c (Proc.devRef .tc main_v57) : Vec Ideal S112x8x28x128 .f32) (ix4 g k x o)
      = rows (a0 m c) (a5 m c) (a6 m c) (a7 m c) (imageOf g) o (rowOf g k) x :=
  (Host.blocks (W4 m ρ c) g k x o).trans (rows_array m ρ c h0 h5 _ _ x o)

/-- The column table, as the third call reads it. -/
theorem column_weights (X : Fin 224) (x : Fin 28) :
    (W5 m ρ c (Proc.devRef .tc main_cst_1) : Vec Ideal S224x28 .f32) (ix2 X x) = weight X x :=
  (congrFun ((W5_of m ρ c main_cst_1 (by decide)).trans ((W4_of m ρ c main_cst_1 (by decide)).trans
    ((W3_of m ρ c main_cst_1 (by decide)).trans (W2_of m ρ c main_cst_1 (by decide))))) _).trans (Host.column_table (W0 m ρ c) X x)

/-- The features the third call computes. -/
theorem features (h0 : ∀ i, ∃ r : ℝ, a0 m c i = r) (h5 : ∀ i, ∃ r : ℝ, a5 m c i = r) (g : Fin 112) (k : Fin 8) (X : Fin 224) (o : Fin 128) :
    featArr (W5 m ρ c (Proc.devRef .tc main_v57)) (W5 m ρ c (Proc.devRef .tc main_cst_1)) (ix4 g k X o)
      = feature (a0 m c) (a5 m c) (a6 m c) (a7 m c) (imageOf g) (rowOf g k) X o :=
  Finset.sum_congr (M := EReal) rfl fun x _ => congrArg₂ (· * ·) (column_weights m ρ c X x) (rows_blocks m ρ c h0 h5 g k x o)

/-- The third call's features. -/
theorem feature_array (h0 : ∀ i, ∃ r : ℝ, a0 m c i = r) (h5 : ∀ i, ∃ r : ℝ, a5 m c i = r) (g : Fin 112) (k : Fin 8) (X : Fin 224) (o : Fin 128) :
    (W6 m ρ c (Proc.devRef .tc main_v61_0) : Vec Ideal S112x8x224x128 .f32) (ix4 g k X o)
      = feature (a0 m c) (a5 m c) (a6 m c) (a7 m c) (imageOf g) (rowOf g k) X o :=
  (congrFun ((W6_arr m ρ c 7).trans (feat_array (V5 m ρ) c)) _).trans (features m ρ c h0 h5 g k X o)

/-- An image's sixteen numbers, as the third call reads them. -/
theorem numbers (b : Fin 4) (k : Fin 16) : (W5 m ρ c (Proc.devRef .tc main_v56) : Vec Ideal S4x1x16 .f32) (ix3 b 0 k)
    = params (a2 m c) (a3 m c) (a4 m c) (a8 m c) (a12 m c) b k := by
  have e2 : (W4 m ρ c (Proc.devRef .tc main_arg2) : Vec Ideal S4x3x3 .f32) = a2 m c := W4_args m ρ c main_arg2 (by decide)
  have e3 : (W4 m ρ c (Proc.devRef .tc main_arg3) : Vec Ideal S4x4x4 .f32) = a3 m c := W4_args m ρ c main_arg3 (by decide)
  have e4 : (W4 m ρ c (Proc.devRef .tc main_arg4) : Vec Ideal S4 .f32) = a4 m c := W4_args m ρ c main_arg4 (by decide)
  have e8 : (W4 m ρ c (Proc.devRef .tc main_arg8) : Vec Ideal S_ .f32) = a8 m c := W4_args m ρ c main_arg8 (by decide)
  have e12 : (W4 m ρ c (Proc.devRef .tc main_arg12) : Vec Ideal S1 .f32) = a12 m c := W4_args m ρ c main_arg12 (by decide)
  rw [← e2, ← e3, ← e4, ← e8, ← e12]
  exact Host.params_row (W4 m ρ c) b k

/-- The third call's logits. -/
theorem logit_values (h0 : ∀ i, ∃ r : ℝ, a0 m c i = r) (h5 : ∀ i, ∃ r : ℝ, a5 m c i = r) (g : Fin 112) (k : Fin 8) (X : Fin 224) :
    (W6 m ρ c (Proc.devRef .tc main_v61_1) : Vec Ideal S112x8x224x1 .f32) (ix4 g k X 0)
      = logitOf (feature (a0 m c) (a5 m c) (a6 m c) (a7 m c) (imageOf g) (rowOf g k) X) (fun o => a9 m c (ix1 o)) (fun o => a10 m c (ix1 o))
          (fun o => a11 m c (ix2 o 0)) (a12 m c (ix1 0)) (Ideal.exp (-(a8 m c ix0))) := by
  have e9 : (W4 m ρ c (Proc.devRef .tc main_arg9) : Vec Ideal S128 .f32) = a9 m c := W4_args m ρ c main_arg9 (by decide)
  have e10 : (W4 m ρ c (Proc.devRef .tc main_arg10) : Vec Ideal S128 .f32) = a10 m c := W4_args m ρ c main_arg10 (by decide)
  have e11 : (W4 m ρ c (Proc.devRef .tc main_arg11) : Vec Ideal S128x1 .f32) = a11 m c := W4_args m ρ c main_arg11 (by decide)
  have hf := funext (features m ρ c h0 h5 g k X)
  have hg := funext fun o => (Host.norm_gain (W4 m ρ c) o).trans (congrFun e9 _)
  have hb := funext fun o => (Host.norm_shift (W4 m ρ c) o).trans (congrFun e10 _)
  have hw := funext fun o => (Host.attention (W4 m ρ c) o).trans (congrFun e11 _)
  have hp := numbers m ρ c (imageOf g) 14
  have ht := numbers m ρ c (imageOf g) 15
  refine (congrFun ((W6_arr m ρ c 8).trans (logit_array (V5 m ρ) c)) _).trans ?_
  show logitOf (fun o => featArr (W5 m ρ c (Proc.devRef .tc main_v57)) (W5 m ρ c (Proc.devRef .tc main_cst_1)) (ix4 g k X o))
    (fun o => (W5 m ρ c (Proc.devRef .tc main_v58) : Vec Ideal S1x128 .f32) (ix2 0 o))
    (fun o => (W5 m ρ c (Proc.devRef .tc main_v59) : Vec Ideal S1x128 .f32) (ix2 0 o))
    (fun o => (W5 m ρ c (Proc.devRef .tc main_v60) : Vec Ideal S1x128 .f32) (ix2 0 o))
    ((W5 m ρ c (Proc.devRef .tc main_v56) : Vec Ideal S4x1x16 .f32) (ix3 (imageOf g) 0 14))
    ((W5 m ρ c (Proc.devRef .tc main_v56) : Vec Ideal S4x1x16 .f32) (ix3 (imageOf g) 0 15)) = _
  rw [hf, hg, hb, hw, hp, ht]
  rfl

/-- The third call's flags. -/
theorem flag_values (g : Fin 112) (k : Fin 8) (X : Fin 224) :
    (W6 m ρ c (Proc.devRef .tc main_v61_2) : Vec Ideal S112x8x224 .f32) (ix3 g k X)
      = validAt (params (a2 m c) (a3 m c) (a4 m c) (a8 m c) (a12 m c) (imageOf g)) (a1 m c (ix3 (imageOf g) (rowOf g k) X))
          (BitVec.ofNat 32 X.val) (BitVec.ofNat 32 (rowOf g k).val) := by
  have e1 : (W5 m ρ c (Proc.devRef .tc main_arg1) : Vec Ideal S4x224x224 .f32) = a1 m c := W5_args m ρ c main_arg1 (by decide)
  have hp := funext (numbers m ρ c (imageOf g))
  refine (congrFun ((W6_arr m ρ c 9).trans (valid_array (V5 m ρ) c)) _).trans ?_
  show validAt (fun j => (W5 m ρ c (Proc.devRef .tc main_v56) : Vec Ideal S4x1x16 .f32) (ix3 (imageOf g) 0 j))
    ((W5 m ρ c (Proc.devRef .tc main_arg1) : Vec Ideal S4x224x224 .f32) (ix3 (imageOf g) (rowOf g k) X)) _ _ = _
  rw [hp, e1]
  rfl

/-- The third call's voxel numbers. -/
theorem number_values (g : Fin 112) (k : Fin 8) (X : Fin 224) :
    (W6 m ρ c (Proc.devRef .tc main_v61_3) : Vec Ideal S112x8x224 .i32) (ix3 g k X)
      = binAt (params (a2 m c) (a3 m c) (a4 m c) (a8 m c) (a12 m c) (imageOf g)) (a1 m c (ix3 (imageOf g) (rowOf g k) X))
          (BitVec.ofNat 32 X.val) (BitVec.ofNat 32 (rowOf g k).val) (BitVec.ofNat 32 (imageOf g).val) := by
  have e1 : (W5 m ρ c (Proc.devRef .tc main_arg1) : Vec Ideal S4x224x224 .f32) = a1 m c := W5_args m ρ c main_arg1 (by decide)
  have hp := funext (numbers m ρ c (imageOf g))
  refine (congrFun ((W6_arr m ρ c 10).trans (bin_array (V5 m ρ) c)) _).trans ?_
  show binAt (fun j => (W5 m ρ c (Proc.devRef .tc main_v56) : Vec Ideal S4x1x16 .f32) (ix3 (imageOf g) 0 j))
    ((W5 m ρ c (Proc.devRef .tc main_arg1) : Vec Ideal S4x224x224 .f32) (ix3 (imageOf g) (rowOf g k) X)) _ _ _ = _
  rw [hp, e1]
  rfl

/-- The block and the row in it of pixel `N` are the image and the row of that pixel. -/
theorem image_eq (N : Fin 200704) : imageOf ⟨N.val / 1792, by omega⟩ = imageAt N := by
  refine Fin.ext ?_
  show N.val / 1792 / 28 = N.val / 50176
  omega
/-- The row of a pixel, by blocks and by the image, is one. -/
theorem row_eq (N : Fin 200704) : rowOf ⟨N.val / 1792, by omega⟩ ⟨N.val / 224 % 8, by omega⟩ = rowAt (pixelAt N) := by
  refine Fin.ext ?_
  show N.val / 1792 % 28 * 8 + N.val / 224 % 8 = N.val % 50176 / 224
  omega
/-- The column of a pixel, by blocks and by the image, is one. -/
theorem column_eq (N : Fin 200704) : (⟨N.val % 224, by omega⟩ : Fin 224) = colAt (pixelAt N) := by
  refine Fin.ext ?_
  show N.val % 224 = N.val % 50176 % 224
  omega

open Cert.ReferenceIdeal.Read

/-- The flat features are the reference's. -/
theorem flat_features (h0 : ∀ i, ∃ r : ℝ, a0 m c i = r) (h5 : ∀ i, ∃ r : ℝ, a5 m c i = r) (N : Fin 200704) (o : Fin 128) :
    (W7 m ρ c (Proc.devRef .tc main_v62) : Vec Ideal S200704x128 .f32) (ix2 N o)
      = val_main_v169 (F := Ideal) (a0 m c) (a5 m c) (a6 m c) (a7 m c) (ix2 N o) := by
  rw [ReferenceIdeal.Upsample.feature_at, ← image_eq, ← row_eq, ← column_eq]
  exact (Host.flat_features (W6 m ρ c) N o).trans (feature_array m ρ c h0 h5 _ _ _ o)

/-- The flat logits are the reference's. -/
theorem flat_logits (h0 : ∀ i, ∃ r : ℝ, a0 m c i = r) (h5 : ∀ i, ∃ r : ℝ, a5 m c i = r) (h8 : ∃ r : ℝ, a8 m c ix0 = r) (N : Fin 200704) :
    (W7 m ρ c (Proc.devRef .tc main_v63) : Vec Ideal S200704x1 .f32) (ix2 N 0)
      = val_main_v200 (F := Ideal) (a0 m c) (a5 m c) (a6 m c) (a7 m c) (a8 m c) (a9 m c) (a10 m c) (a11 m c) (a12 m c) (ix2 N 0) := by
  rw [ReferenceIdeal.Logits.logit_at _ _ _ _ _ _ _ _ _ h8]
  refine (Host.flat_logits (W6 m ρ c) N).trans ((logit_values m ρ c h0 h5 _ _ _).trans ?_)
  have hf : ReferenceIdeal.Logits.feat (a0 m c) (a5 m c) (a6 m c) (a7 m c) N
      = feature (a0 m c) (a5 m c) (a6 m c) (a7 m c) (imageAt N) (rowAt (pixelAt N)) (colAt (pixelAt N)) :=
    funext fun o => ReferenceIdeal.Upsample.feature_at _ _ _ _ N o
  rw [hf, image_eq, row_eq, column_eq]

/-- The flat flags are the reference's, as floats. -/
theorem flat_flags (N : Fin 200704) : (W7 m ρ c (Proc.devRef .tc main_v64) : Vec Ideal S200704x1 .f32) (ix2 N 0)
    = FloatOps.sitofp (F := Ideal) .f32 (BitVec.setWidth 32 (val_main_v82 (F := Ideal) (a1 m c) (a2 m c) (a3 m c) (a4 m c) (ix1 N))) := by
  rw [ReferenceIdeal.Geometry.flag (a1 m c) (a2 m c) (a3 m c) (a4 m c) (a8 m c) (a12 m c)]
  refine (Host.flat_flags (W6 m ρ c) N).trans ((flag_values m ρ c _ _ _).trans ?_)
  rw [image_eq, row_eq, column_eq]
  rfl

/-- The third call's flags at pixel `N`, the same. -/
theorem flags_at (N : Fin 200704) : (W6 m ρ c (Proc.devRef .tc main_v61_2) : Vec Ideal S112x8x224 .f32)
      (ix3 ⟨N.val / 1792, by omega⟩ ⟨N.val / 224 % 8, by omega⟩ ⟨N.val % 224, by omega⟩)
    = FloatOps.sitofp (F := Ideal) .f32 (BitVec.setWidth 32 (val_main_v82 (F := Ideal) (a1 m c) (a2 m c) (a3 m c) (a4 m c) (ix1 N))) :=
  (Host.flat_flags (W6 m ρ c) N).symm.trans (flat_flags m ρ c N)

/-- The flat voxel numbers are the reference's. -/
theorem flat_numbers : (W7 m ρ c (Proc.devRef .tc main_v65) : Vec Ideal S200704 .i32)
    = val_main_v84 (F := Ideal) (a1 m c) (a2 m c) (a3 m c) (a4 m c) := by
  funext i
  obtain ⟨N, rfl⟩ : ∃ N : Fin 200704, i = ix1 N := ⟨i 0, by funext a; match a with | ⟨0, _⟩ => rfl⟩
  rw [ReferenceIdeal.Geometry.number (a1 m c) (a2 m c) (a3 m c) (a4 m c) (a8 m c) (a12 m c)]
  refine (Host.flat_numbers (W6 m ρ c) N).trans ((number_values m ρ c _ _ _).trans ?_)
  rw [image_eq, row_eq, column_eq]

end Cert.KernelIdeal.Stages

end
-- ==== Proof.Scatter.lean ====
/-
  Dividing before or after summing over the voxels is the same.

  A scatter of rows adds every update row into the row of the table its number names (`lands`). A pixel whose number
  names row `r` reads back, by a gather with the same numbers, the entry of row `r`. So the sums of the
  quotients by the clipped entries read back are the quotients of the sums by the clipped entries (`scatter_div`).
-/
module

public import proofs.«01_k».proof.Proof.Algebra
public import Idealize.ShloMosaic.Lib.Routing.Ops
public import Idealize.ShloMosaic.Lib.Routing.OpsPair
public import Idealize.ShloMosaic.Lib.Pointwise

@[expose] public section

set_option maxHeartbeats 4000000
set_option maxRecDepth 16384

noncomputable section

namespace Cert.Scatter

open Idealize.ShloMosaic Idealize.ShloMosaic.TcCoe
open Idealize.ShloMosaic.Routing

variable {R C n : ℕ}

/-- The axes of a scatter of rows: the updates' second axis is the row, the numbers name the table's first axis. -/
structure Rowwise (d : ScatterDims (shape2 R C) (shape2 n 1) (shape2 n C)) : Prop where
  window : d.updateWindowDims = [1]
  inserted : d.insertedWindowDims = [0]
  named : d.scatterDimsToOperandDims = [0]
  vector : d.indexVectorDim = 1

/-- Update `(k, j)` lands at `(r, c)` when its number, read signed, is `r` and it stands in column `c`. -/
theorem lands (d : ScatterDims (shape2 R C) (shape2 n 1) (shape2 n C)) (hd : Rowwise d) (idx : IVec (shape2 n 1) 32)
    (k : Fin n) (j : Fin C) (r : Fin R) (c : Fin C) :
    d.resultIdx? (ix2 k j) idx = some (ix2 r c) ↔ (idx (ix2 k 0)).toInt = (r.val : ℤ) ∧ j = c := by
  have pick : ∀ (l : List (Fin 2)) (i : ℕ) (h : i < l.length) (m : Fin 2), l = [m] → l[i]'h = m := by
    intro l i h m hl
    subst hl
    have : i = 0 := by simp at h; exact h
    subst this
    rfl
  have hu : d.uScatter = [0] := by
    show (shape2 n C).kept d.updateWindowDims = _
    rw [hd.window]
    rfl
  have hs : d.sKept = [1] := by
    show (shape2 R C).kept d.insertedWindowDims = _
    rw [hd.inserted]
    rfl
  have hm0 : (0 : Fin 2) ∈ d.scatterDimsToOperandDims := by rw [hd.named]; exact List.mem_singleton.2 rfl
  have hm1 : (1 : Fin 2) ∉ d.scatterDimsToOperandDims := one_not_mem _ hd.named
  have hw0 : d.window (ix2 k j) 0 = 0 := by
    unfold ScatterDims.window
    rw [dif_neg]
    rw [hs]
    exact fun h => Nat.zero_ne_one (congrArg Fin.val (List.mem_singleton.1 h))
  have e0 : ∀ X : Fin 2, X = 0 → (ix2 k j X).val = k.val := fun X h => by subst h; rfl
  have e1 : ∀ X : Fin 2, X = 1 → (ix2 k j X).val = j.val := fun X h => by subst h; rfl
  have hw1 : d.window (ix2 k j) 1 = j.val := by
    unfold ScatterDims.window
    rw [dif_pos (by rw [hs]; exact List.mem_singleton.2 rfl)]
    exact e1 _ (pick _ _ _ 1 hd.window)
  have hsi : d.siIdx (ix2 k j) ⟨d.scatterDimsToOperandDims.idxOf 0, List.idxOf_lt_length_iff.2 hm0⟩ = ix2 k (0 : Fin 1) := by
    funext b
    apply Fin.ext
    match b with
    | ⟨0, _⟩ =>
      unfold ScatterDims.siIdx
      rw [dif_neg (by rw [hd.vector]; exact Nat.zero_ne_one)]
      unfold ScatterDims.siCoord
      simp only [Fin.val_cast]
      exact e0 _ (pick _ _ _ 0 hu)
    | ⟨1, _⟩ =>
      unfold ScatterDims.siIdx
      rw [dif_pos (by rw [hd.vector])]
      show List.idxOf (0 : Fin 2) d.scatterDimsToOperandDims = 0
      rw [hd.named]
      rfl
  have hst0 : d.start (ix2 k j) idx 0 = (idx (ix2 k 0)).toInt := by
    unfold ScatterDims.start
    rw [dif_pos hm0, hsi]
  have hst1 : d.start (ix2 k j) idx 1 = 0 := by
    unfold ScatterDims.start
    rw [dif_neg hm1]
  refine (resultIdx?_ix2 d (ix2 k j) idx r c).trans ?_
  rw [hst0, hst1, hw0, hw1, Fin.ext_iff]
  constructor
  · rintro ⟨a, b⟩
    exact ⟨by omega, by omega⟩
  · rintro ⟨a, b⟩
    exact ⟨by omega, by omega⟩

/-- A number that reads `r` is the word of `r`. -/
theorem word_of (x : BitVec 32) (r : ℕ) (hr : r < 2 ^ 31) (h : x.toInt = (r : ℤ)) : x = BitVec.ofNat 32 r := by
  apply BitVec.eq_of_toInt_eq
  rw [h, BitVec.toInt_ofNat', Int.bmod_eq_of_le] <;> omega

/-- The rows of a table scattered into from zero: each entry is the sum of the updates that land there. -/
theorem scattered (d : ScatterDims (shape2 R C) (shape2 n 1) (shape2 n C)) (z : Vec Ideal (shape2 R C) .f32) (hz : ∀ i, z i = 0)
    (idx : IVec (shape2 n 1) 32) (u : Vec Ideal (shape2 n C) .f32) (i : (shape2 R C).Idx) :
    Host.scatterAdd (F := Ideal) (φ := .f32) d z idx u i
      = ∑ k ∈ Finset.univ.filter (fun k : (shape2 n C).Idx => d.resultIdx? k idx = some i), u k := by
  show Ideal.hostScatterAdd d z idx u i = _
  unfold Ideal.hostScatterAdd
  rw [hz, zero_add]

/-- The sums of the quotients by the clipped entries read back are the quotients of the sums by the clipped entries. -/
theorem scatter_div (hR : R < 2 ^ 31) (d : ScatterDims (shape2 R C) (shape2 n 1) (shape2 n C)) (hd : Rowwise d)
    (g : GatherDims (shape2 R 1) (shape2 n 1) (shape2 n 1)) (hoff : g.offsetDims = [1]) (hcoll : g.collapsedSliceDims = [0])
    (hob : g.operandBatchingDims = []) (hsim : g.startIndexMap = [0]) (hivd : g.indexVectorDim = 1)
    (z : Vec Ideal (shape2 R C) .f32) (hz : ∀ i, z i = 0) (idx : IVec (shape2 n 1) 32) (u q : Vec Ideal (shape2 n C) .f32)
    (W : Vec Ideal (shape2 R 1) .f32) (e : EReal) (he : 0 < e)
    (hq : ∀ k j, q (ix2 k j) = Ideal.div (u (ix2 k j)) (max e (Host.gather g W idx (ix2 k 0)))) (r : Fin R) (c : Fin C) :
    Host.scatterAdd (F := Ideal) (φ := .f32) d z idx q (ix2 r c)
      = Ideal.div (Host.scatterAdd (F := Ideal) (φ := .f32) d z idx u (ix2 r c)) (max e (W (ix2 r 0))) := by
  rw [scattered d z hz, scattered d z hz, ← Algebra.sum_div _ _ _ (lt_max_of_lt_left he)]
  refine Finset.sum_congr (M := EReal) rfl fun i hi => ?_
  obtain ⟨k, j, rfl⟩ : ∃ (k : Fin n) (j : Fin C), i = ix2 k j := ⟨i 0, i 1, by funext a; match a with | ⟨0, _⟩ => rfl | ⟨1, _⟩ => rfl⟩
  obtain ⟨hk, rfl⟩ := (lands d hd idx k j r c).mp (Finset.mem_filter.mp hi).2
  have hg : Host.gather g W idx (ix2 k 0) = W (ix2 r 0) :=
    gather_row g hoff hcoll hob hsim hivd W idx k 0 r (word_of _ _ (by omega) hk) hR
  rw [hq, hg]

end Cert.Scatter

end
-- ==== Proof.RefEnds.lean ====
/-
  The reference's last steps, one at a time: the masked logits, their maximum, the weights, the sums over the voxels,
  the averages and the mask.
-/
module

public import proofs.«01_k».proof.Proof.Gen.ReferenceIdeal.Read
public import proofs.«01_k».proof.Proof.Scatter
public import proofs.«01_k».proof.Proof.Consts
public import Idealize.ShloMosaic.Lib.Pointwise

@[expose] public section

set_option maxHeartbeats 4000000
set_option maxRecDepth 16384

noncomputable section

namespace Cert.ReferenceIdeal.Ends

open Idealize.ShloMosaic Idealize.ShloMosaic.TcCoe
open Cert.ReferenceIdeal Cert.ReferenceIdeal.Read
variable (x0 : Vec Ideal S4x256x28x28 .f32) (x1 : Vec Ideal S4x224x224 .f32) (x2 : Vec Ideal S4x3x3 .f32) (x3 : Vec Ideal S4x4x4 .f32)
  (x4 : Vec Ideal S4 .f32) (x5 : Vec Ideal S128x256 .f32) (x6 x7 : Vec Ideal S128 .f32) (x8 : Vec Ideal S_ .f32)
  (x9 x10 : Vec Ideal S128 .f32) (x11 : Vec Ideal S128x1 .f32) (x12 : Vec Ideal S1 .f32)

/-- The masked logits. -/
theorem masked_at (N : Fin 200704) : val_main_v202 (F := Ideal) x0 x1 x2 x3 x4 x5 x6 x7 x8 x9 x10 x11 x12 (ix2 N 0) = Scalar.select (val_main_v82 (F := Ideal) x1 x2 x3 x4 (ix1 N))
    (val_main_v200 (F := Ideal) x0 x5 x6 x7 x8 x9 x10 x11 x12 (ix2 N 0)) (Ideal.ofBits .f32 0xFF800000#32) := by
  pointwise [val_main_v201, val_main_cst_31, val_main_call1_v0, val_main_call1_v1, val_main_v202]
  rfl

/-- The weights. -/
theorem weight_at (N : Fin 200704) : val_main_v211 (F := Ideal) x0 x1 x2 x3 x4 x5 x6 x7 x8 x9 x10 x11 x12 (ix2 N 0) = Ideal.exp (Scalar.select (val_main_v82 (F := Ideal) x1 x2 x3 x4 (ix1 N))
    (val_main_v200 (F := Ideal) x0 x5 x6 x7 x8 x9 x10 x11 x12 (ix2 N 0) - val_main_v203 (F := Ideal) x0 x1 x2 x3 x4 x5 x6 x7 x8 x9 x10 x11 x12 ix0) (Ideal.ofBits .f32 0xC2A00000#32))
    * FloatOps.uitofp (F := Ideal) .f32 (val_main_v82 (F := Ideal) x1 x2 x3 x4 (ix1 N)) := by
  pointwise [val_main_v204, val_main_v205, val_main_v206, val_main_cst_33, val_main_call2_v0, val_main_v207, val_main_v208, val_main_v209, val_main_v210, val_main_v211]

/-- The weighted features. -/
theorem weighted_at (N : Fin 200704) (o : Fin 128) : val_main_v221 (F := Ideal) x0 x1 x2 x3 x4 x5 x6 x7 x8 x9 x10 x11 x12 (ix2 N o)
    = val_main_v169 (F := Ideal) x0 x5 x6 x7 (ix2 N o) * val_main_v211 (F := Ideal) x0 x1 x2 x3 x4 x5 x6 x7 x8 x9 x10 x11 x12 (ix2 N 0) := by
  have e : idx_main_v220 (ix2 N o) = ix2 N 0 := by
    funext a
    match a with
    | ⟨0, _⟩ => rfl
    | ⟨1, _⟩ => rfl
  rw [val_main_v221_apply, val_main_v220_apply, e]
  rfl

/-- The weighted features divided by the clipped sums of weights read back. -/
theorem quotient_at (N : Fin 200704) (o : Fin 128) : val_main_v231 (F := Ideal) x0 x1 x2 x3 x4 x5 x6 x7 x8 x9 x10 x11 x12 (ix2 N o)
    = Ideal.div (val_main_v221 (F := Ideal) x0 x1 x2 x3 x4 x5 x6 x7 x8 x9 x10 x11 x12 (ix2 N o)) (max (Ideal.ofBits .f32 0x38D1B717#32) (val_main_v228 (F := Ideal) x0 x1 x2 x3 x4 x5 x6 x7 x8 x9 x10 x11 x12 (ix2 N 0))) := by
  pointwise [val_main_cst_39, val_main_call3_v0, val_main_call3_v1, val_main_v229, val_main_v230, val_main_v231]
  rfl

/-- The numbers of the three scatters and the gather are the same. -/
theorem numbers_gather : val_main_v227 (F := Ideal) x1 x2 x3 x4 = val_main_v238 (F := Ideal) x1 x2 x3 x4 := rfl
/-- Both sums scatter by the same voxel numbers. -/
theorem numbers_first : val_main_v218 (F := Ideal) x1 x2 x3 x4 = val_main_v238 (F := Ideal) x1 x2 x3 x4 := rfl

/-- The averages: the sums of the weighted features divided by the clipped sums of weights. -/
theorem average_at (r : Fin 160000) (o : Fin 128) : val_main_v239 (F := Ideal) x0 x1 x2 x3 x4 x5 x6 x7 x8 x9 x10 x11 x12 (ix2 r o)
    = Ideal.div (Host.scatterAdd (F := Ideal) (φ := .f32) scatter_S160000x128_S200704x1_S200704x128_1_0_0_1 (val_main_v232 (F := Ideal)) (val_main_v238 (F := Ideal) x1 x2 x3 x4) (val_main_v221 (F := Ideal) x0 x1 x2 x3 x4 x5 x6 x7 x8 x9 x10 x11 x12) (ix2 r o))
        (max (Ideal.ofBits .f32 0x38D1B717#32) (val_main_v219 (F := Ideal) x0 x1 x2 x3 x4 x5 x6 x7 x8 x9 x10 x11 x12 (ix2 r 0))) :=
  Scatter.scatter_div (R := 160000) (C := 128) (n := 200704) (by norm_num) scatter_S160000x128_S200704x1_S200704x128_1_0_0_1
    ⟨rfl, rfl, rfl, rfl⟩ gather_S160000x1_S200704x1_S200704x1_1_0_n_n_0_1_11 rfl rfl rfl rfl rfl (val_main_v232 (F := Ideal))
    (fun i => by
      obtain ⟨a, b, rfl⟩ : ∃ (a : Fin 160000) (b : Fin 128), i = ix2 a b := ⟨i 0, i 1, by funext a; match a with | ⟨0, _⟩ => rfl | ⟨1, _⟩ => rfl⟩
      pointwise [val_main_v232, val_main_cst_40])
    (val_main_v238 (F := Ideal) x1 x2 x3 x4) (val_main_v221 (F := Ideal) x0 x1 x2 x3 x4 x5 x6 x7 x8 x9 x10 x11 x12) (val_main_v231 (F := Ideal) x0 x1 x2 x3 x4 x5 x6 x7 x8 x9 x10 x11 x12) (val_main_v219 (F := Ideal) x0 x1 x2 x3 x4 x5 x6 x7 x8 x9 x10 x11 x12) (Ideal.ofBits .f32 0x38D1B717#32) Consts.word_floor_pos
    (fun k j => quotient_at x0 x1 x2 x3 x4 x5 x6 x7 x8 x9 x10 x11 x12 k j) r o

end Cert.ReferenceIdeal.Ends

end
-- ==== Proof.Weights.lean ====
/-
  What the arrays of the last two calls hold: the pixels' weights and weighted features, and the voxels' averages and
  flags.
-/
module

public import proofs.«01_k».proof.Proof.Gen.KernelIdeal.Frame
public import proofs.«01_k».proof.Proof.Rows
public import Idealize.ShloMosaic.Lib.Pipeline.ValueKit
public import Idealize.ShloMosaic.Lib.Pointwise

@[expose] public section

set_option maxHeartbeats 4000000
set_option maxRecDepth 16384

noncomputable section

namespace Cert.KernelIdeal.Weights

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- Where the windows of the fourth call stand at each grid point. -/
theorem idx3 : ∀ t : Fin grid3.N, win3_0.index t = ![t.val, 0] ∧ win3_1.index t = ![t.val, 0] ∧ win3_2.index t = ![t.val, 0]
   ∧ win3_3.index t = ![0, 0] ∧ win3_4.index t = ![t.val, 0] ∧ win3_5.index t = ![t.val, 0] := by decide +kernel

/-- Where the windows of the fifth call stand at each grid point. -/
theorem idx4 : ∀ t : Fin grid4.N, win4_0.index t = ![t.val, 0] ∧ win4_1.index t = ![t.val, 0] ∧ win4_2.index t = ![t.val, 0]
   ∧ win4_3.index t = ![t.val, 0] := by decide +kernel

/-- A pixel's weight from its flag `v`, its logit `l` and the largest logit `m`. -/
def weightOf (v l m : EReal) : EReal :=
  Ideal.exp (if 0 < v then l - m else Ideal.ofBits .f32 0xC2A00000#32) * v

/-- The weights of all pixels. -/
def weightArr (l v : Vec Ideal S200704x1 .f32) (m : Vec Ideal S1x1 .f32) : Vec Ideal S200704x1 .f32 := fun i =>
  weightOf (v (ix2 (i 0) 0)) (l (ix2 (i 0) 0)) (m (ix2 0 0))

/-- The weighted features of all pixels. -/
def weightedArr (f : Vec Ideal S200704x128 .f32) (l v : Vec Ideal S200704x1 .f32) (m : Vec Ideal S1x1 .f32) : Vec Ideal S200704x128 .f32 := fun i =>
  f (ix2 (i 0) (i 1)) * weightArr l v m (ix2 (i 0) 0)

/-- The sums divided by the clipped sums of weights. -/
def averageArr (a : Vec Ideal S160000x128 .f32) (w : Vec Ideal S160000x1 .f32) : Vec Ideal S160000x128 .f32 := fun i =>
  Ideal.div (a (ix2 (i 0) (i 1))) (max (Ideal.ofBits .f32 0x38D1B717#32) (w (ix2 (i 0) 0)))

/-- The flag of a voxel some weight fell into. -/
def maskArr (w : Vec Ideal S160000x1 .f32) : Vec Ideal S160000x1 .f32 := fun i =>
  FloatOps.sitofp (F := Ideal) .f32 (BitVec.setWidth 32 (FloatOps.cmpf (F := Ideal) (φ := .f32) .ogt (w (ix2 (i 0) 0)) (Ideal.ofBits .f32 0x358637BD#32)))

/-- The three blocks a grid point of the weights' call reads, and where its rows lie. -/
theorem reads3 (c : Dev nD) (t : Fin cfg3.N) (r : Fin 2048) (hr : t.val * 2048 + r.val < 200704) :
    iblk3 V c 1 t (ix2 r 0) = V c main_v63 (ix2 ⟨t.val * 2048 + r.val, hr⟩ 0) ∧
    iblk3 V c 2 t (ix2 r 0) = V c main_v64 (ix2 ⟨t.val * 2048 + r.val, hr⟩ 0) ∧
    iblk3 V c 3 t (ix2 0 0) = V c main_v70 (ix2 0 0) ∧
    ∀ o, iblk3 V c 0 t (ix2 r o) = V c main_v62 (ix2 ⟨t.val * 2048 + r.val, hr⟩ o) := by
  refine ⟨?_, ?_, ?_, fun o => ?_⟩ <;> blk_ext [iblk3, idx3 t]

/-- A row of a block of 2048 is a row of the array. -/
theorem lt3 (t : Fin cfg3.N) (r : Fin 2048) : t.val * 2048 + r.val < 200704 := by
  have := lt_of_lt_of_eq t.isLt N_3; omega

/-- A row of a block of 8000 is a row of the array. -/
theorem lt4 (t : Fin cfg4.N) (r : Fin 8000) : t.val * 8000 + r.val < 160000 := by
  have := lt_of_lt_of_eq t.isLt N_4; omega

/-- The weights the fourth call leaves. -/
theorem weight_array (c : Dev nD) : (dat3 V c).arrAt 5 cfg3.N = weightArr (V c main_v63) (V c main_v64) (V c main_v70) := by
  refine (dat3 V c).arrAt_eq_of_covers 5 _ (by decide +kernel) fun t hf y => ?_
  blk_simp
  rw [after3_5]
  frame_out
  idx_vars y
  obtain rfl : y1 = 0 := Subsingleton.elim _ _
  obtain ⟨e1, e2, e3, -⟩ := reads3 V c t y0 (lt3 t y0)
  generalize hi : (((View.whole main_v71_1).slice (win3_5.rect t)).emb (ix2 y0 0)) = i
  have h0 : i 0 = ⟨t.val * 2048 + y0.val, lt3 t y0⟩ := by subst hi; apply Fin.ext; blk_ext [idx3 t]
  pointwise [k3_pay1]
  rw [e1, e2, e3]
  show _ = weightArr _ _ _ i
  unfold weightArr weightOf
  rw [h0]
  rfl

/-- The weighted features the fourth call leaves. -/
theorem weighted_array (c : Dev nD) : (dat3 V c).arrAt 4 cfg3.N = weightedArr (V c main_v62) (V c main_v63) (V c main_v64) (V c main_v70) := by
  refine (dat3 V c).arrAt_eq_of_covers 4 _ (by decide +kernel) fun t hf y => ?_
  blk_simp
  rw [after3_4]
  frame_out
  idx_vars y
  obtain ⟨e1, e2, e3, e0⟩ := reads3 V c t y0 (lt3 t y0)
  generalize hi : (((View.whole main_v71_0).slice (win3_4.rect t)).emb (ix2 y0 y1)) = i
  have h0 : i 0 = ⟨t.val * 2048 + y0.val, lt3 t y0⟩ := by subst hi; apply Fin.ext; blk_ext [idx3 t]
  have h1 : i 1 = y1 := by subst hi; apply Fin.ext; blk_ext [idx3 t]
  pointwise [k3_pay1, k3_pay2]
  rw [e1, e2, e3, e0]
  show _ = weightedArr _ _ _ _ i
  unfold weightedArr weightArr weightOf
  rw [h0, h1]
  rfl

/-- The averages the fifth call leaves. -/
theorem average_array (c : Dev nD) : (dat4 V c).arrAt 2 cfg4.N = averageArr (V c main_v79) (V c main_v87) := by
  refine (dat4 V c).arrAt_eq_of_covers 2 _ (by decide +kernel) fun t hf y => ?_
  blk_simp
  rw [after4_2]
  frame_out
  idx_vars y
  have e0 : iblk4 V c 0 t (ix2 y0 y1) = V c main_v79 (ix2 ⟨t.val * 8000 + y0.val, lt4 t y0⟩ y1) := by blk_ext [iblk4, idx4 t]
  have e1 : iblk4 V c 1 t (ix2 y0 0) = V c main_v87 (ix2 ⟨t.val * 8000 + y0.val, lt4 t y0⟩ 0) := by blk_ext [iblk4, idx4 t]
  generalize hi : (((View.whole main_v88_0).slice (win4_2.rect t)).emb (ix2 y0 y1)) = i
  have h0 : i 0 = ⟨t.val * 8000 + y0.val, lt4 t y0⟩ := by subst hi; apply Fin.ext; blk_ext [idx4 t]
  have h1 : i 1 = y1 := by subst hi; apply Fin.ext; blk_ext [idx4 t]
  pointwise [k4_pay1, k4_pay2]
  rw [e0, e1]
  show _ = averageArr _ _ i
  unfold averageArr
  rw [h0, h1]
  rfl

/-- The mask the fifth call leaves. -/
theorem mask_array (c : Dev nD) : (dat4 V c).arrAt 3 cfg4.N = maskArr (V c main_v87) := by
  refine (dat4 V c).arrAt_eq_of_covers 3 _ (by decide +kernel) fun t hf y => ?_
  blk_simp
  rw [after4_3]
  frame_out
  idx_vars y
  obtain rfl : y1 = 0 := Subsingleton.elim _ _
  have e1 : iblk4 V c 1 t (ix2 y0 0) = V c main_v87 (ix2 ⟨t.val * 8000 + y0.val, lt4 t y0⟩ 0) := by blk_ext [iblk4, idx4 t]
  generalize hi : (((View.whole main_v88_1).slice (win4_3.rect t)).emb (ix2 y0 0)) = i
  have h0 : i 0 = ⟨t.val * 8000 + y0.val, lt4 t y0⟩ := by subst hi; apply Fin.ext; blk_ext [idx4 t]
  pointwise [k4_pay1, k4_pay3]
  rw [e1]
  show _ = maskArr _ i
  unfold maskArr
  rw [h0]
  rfl

end Cert.KernelIdeal.Weights

end
-- ==== Proof.Results.lean ====
/-
  What the arrays hold from the third call to the results: each is the reference's.
-/
module

public import proofs.«01_k».proof.Proof.Stages
public import proofs.«01_k».proof.Proof.RefEnds
public import proofs.«01_k».proof.Proof.Weights
public import proofs.«01_k».proof.Proof.Host

@[expose] public section

set_option maxHeartbeats 4000000
set_option maxRecDepth 16384

noncomputable section

namespace Cert.KernelIdeal.Results

open Idealize.ShloMosaic Idealize.ShloMosaic.TcCoe
open Idealize.SL.Sem
open Cert.KernelIdeal Cert.KernelIdeal.Gen Cert.KernelIdeal.Stages Cert.KernelIdeal.Weights
open Cert.ReferenceIdeal.Read

variable (m : (ℓ : Loc nD τ sig) → Buf (Elt Ideal) ℓ) (ρ : Dev nD → PrngReg) (c : Dev nD)

/-- A bit read as a float through a wider word is the bit read as a float. -/
theorem bit_float (b : BitVec 1) : FloatOps.sitofp (F := Ideal) .f32 (BitVec.setWidth 32 b) = FloatOps.uitofp (F := Ideal) .f32 b := by
  rcases BitVec.eq_zero_or_eq_one b with rfl | rfl
  · show (((BitVec.setWidth 32 0#1).toInt : ℝ) : EReal) = (((0#1).toNat : ℝ) : EReal)
    norm_num
  · show (((BitVec.setWidth 32 1#1).toInt : ℝ) : EReal) = (((1#1).toNat : ℝ) : EReal)
    norm_num

/-- A bit's float is positive when the bit is set. -/
theorem bit_pos (b : BitVec 1) : (0 : EReal) < FloatOps.sitofp (F := Ideal) .f32 (BitVec.setWidth 32 b) ↔ b = 1#1 := by
  rcases BitVec.eq_zero_or_eq_one b with rfl | rfl
  · show (0 : EReal) < (((BitVec.setWidth 32 0#1).toInt : ℝ) : EReal) ↔ _
    norm_num
  · show (0 : EReal) < (((BitVec.setWidth 32 1#1).toInt : ℝ) : EReal) ↔ _
    norm_num

/-- So the comparison with zero gives the bit back. -/
theorem bit_back (b : BitVec 1) (v : EReal) (hv : v = FloatOps.sitofp (F := Ideal) .f32 (BitVec.setWidth 32 b)) :
    BitVec.ofBool (decide ((0 : EReal) < v)) = b := by
  subst hv
  have h : decide ((0 : EReal) < FloatOps.sitofp (F := Ideal) .f32 (BitVec.setWidth 32 b)) = decide (b = 1#1) :=
    decide_eq_decide.mpr (bit_pos b)
  rw [h]
  rcases BitVec.eq_zero_or_eq_one b with rfl | rfl <;> decide

/-- The weight of a pixel whose flag is a bit. -/
theorem weight_bit (b : BitVec 1) (l x : EReal) : weightOf (FloatOps.sitofp (F := Ideal) .f32 (BitVec.setWidth 32 b)) l x
    = Ideal.exp (Scalar.select b (l - x) (Ideal.ofBits .f32 0xC2A00000#32)) * FloatOps.uitofp (F := Ideal) .f32 b := by
  unfold weightOf
  rw [if_congr (bit_pos b) rfl rfl, bit_float]
  rcases BitVec.eq_zero_or_eq_one b with rfl | rfl <;> rfl

/-- Every index of a table is a pair. -/
theorem pairs {a b : ℕ} (i : (⟨2, ![a, b]⟩ : Shape).Idx) : ∃ (p : Fin a) (q : Fin b), i = ix2 p q :=
  ⟨i 0, i 1, by funext t; match t with | ⟨0, _⟩ => rfl | ⟨1, _⟩ => rfl⟩

/-- The masked logits are the reference's. -/
theorem masked (h0 : ∀ i, ∃ r : ℝ, a0 m c i = r) (h5 : ∀ i, ∃ r : ℝ, a5 m c i = r) (h8 : ∃ r : ℝ, a8 m c ix0 = r) : (W8 m ρ c (Proc.devRef .tc main_v68) : Vec Ideal S200704x1 .f32) = val_main_v202 (F := Ideal) (a0 m c) (a1 m c) (a2 m c) (a3 m c) (a4 m c) (a5 m c) (a6 m c) (a7 m c) (a8 m c) (a9 m c) (a10 m c) (a11 m c) (a12 m c) := by
  funext i
  obtain ⟨N, z, rfl⟩ := pairs (a := 200704) (b := 1) i
  obtain rfl : z = 0 := Subsingleton.elim _ _
  refine (Host.masked (W7 m ρ c) N).trans ?_
  rw [ReferenceIdeal.Ends.masked_at, ← flat_logits m ρ c h0 h5 h8 N]
  have hb := (Host.flag (W6 m ρ c) N).trans (bit_back _ _ (flags_at m ρ c N))
  have hc := congrFun (Host.outside (W6 m ρ c)) ix0
  exact congrArg₂ (fun b x => Scalar.select b ((W7 m ρ c (Proc.devRef .tc main_v63) : Vec Ideal S200704x1 .f32) (ix2 N 0)) x) hb hc

/-- The largest masked logit is the reference's. -/
theorem largest (h0 : ∀ i, ∃ r : ℝ, a0 m c i = r) (h5 : ∀ i, ∃ r : ℝ, a5 m c i = r) (h8 : ∃ r : ℝ, a8 m c ix0 = r) : (W9 m ρ c (Proc.devRef .tc main_v70) : Vec Ideal S1x1 .f32) (ix2 0 0) = val_main_v203 (F := Ideal) (a0 m c) (a1 m c) (a2 m c) (a3 m c) (a4 m c) (a5 m c) (a6 m c) (a7 m c) (a8 m c) (a9 m c) (a10 m c) (a11 m c) (a12 m c) ix0 := by
  refine (Host.largest (W8 m ρ c)).trans ?_
  have h := masked m ρ c h0 h5 h8
  exact congrArg (fun v : Vec Ideal S200704x1 .f32 => Host.reduce (FloatOps.maximumf (F := Ideal)) v
    (constant S_ .f32 0xFF800000#32) reducesTo_S200704x1_S_d0_1 h_S_ ix0) h

/-- The fourth call's operands. -/
theorem operand_v62 : W9 m ρ c (Proc.devRef .tc main_v62) = W7 m ρ c (Proc.devRef .tc main_v62) :=
  (W9_of m ρ c main_v62 (by decide)).trans (W8_of m ρ c main_v62 (by decide))
/-- The logits at the fourth call are the third call's. -/
theorem operand_v63 : W9 m ρ c (Proc.devRef .tc main_v63) = W7 m ρ c (Proc.devRef .tc main_v63) :=
  (W9_of m ρ c main_v63 (by decide)).trans (W8_of m ρ c main_v63 (by decide))
/-- The flags at the fourth call are the third call's. -/
theorem operand_v64 : W9 m ρ c (Proc.devRef .tc main_v64) = W7 m ρ c (Proc.devRef .tc main_v64) :=
  (W9_of m ρ c main_v64 (by decide)).trans (W8_of m ρ c main_v64 (by decide))

/-- The weights the fourth call computes are the reference's. -/
theorem weights_at (h0 : ∀ i, ∃ r : ℝ, a0 m c i = r) (h5 : ∀ i, ∃ r : ℝ, a5 m c i = r) (h8 : ∃ r : ℝ, a8 m c ix0 = r) (N : Fin 200704) : weightArr (W9 m ρ c (Proc.devRef .tc main_v63)) (W9 m ρ c (Proc.devRef .tc main_v64)) (W9 m ρ c (Proc.devRef .tc main_v70)) (ix2 N 0)
    = val_main_v211 (F := Ideal) (a0 m c) (a1 m c) (a2 m c) (a3 m c) (a4 m c) (a5 m c) (a6 m c) (a7 m c) (a8 m c) (a9 m c) (a10 m c) (a11 m c) (a12 m c) (ix2 N 0) := by
  show weightOf ((W9 m ρ c (Proc.devRef .tc main_v64) : Vec Ideal S200704x1 .f32) (ix2 N 0)) ((W9 m ρ c (Proc.devRef .tc main_v63) : Vec Ideal S200704x1 .f32) (ix2 N 0)) ((W9 m ρ c (Proc.devRef .tc main_v70) : Vec Ideal S1x1 .f32) (ix2 0 0)) = _
  rw [operand_v63, operand_v64, flat_flags, flat_logits m ρ c h0 h5 h8, largest m ρ c h0 h5 h8, weight_bit, ReferenceIdeal.Ends.weight_at]

/-- The weights are the reference's. -/
theorem weights (h0 : ∀ i, ∃ r : ℝ, a0 m c i = r) (h5 : ∀ i, ∃ r : ℝ, a5 m c i = r) (h8 : ∃ r : ℝ, a8 m c ix0 = r) : (W10 m ρ c (Proc.devRef .tc main_v71_1) : Vec Ideal S200704x1 .f32) = val_main_v211 (F := Ideal) (a0 m c) (a1 m c) (a2 m c) (a3 m c) (a4 m c) (a5 m c) (a6 m c) (a7 m c) (a8 m c) (a9 m c) (a10 m c) (a11 m c) (a12 m c) := by
  refine ((W10_arr m ρ c 5).trans (weight_array (V9 m ρ) c)).trans ?_
  funext i
  obtain ⟨N, z, rfl⟩ := pairs (a := 200704) (b := 1) i
  obtain rfl : z = 0 := Subsingleton.elim _ _
  exact weights_at m ρ c h0 h5 h8 N

/-- The weighted features are the reference's. -/
theorem weighted (h0 : ∀ i, ∃ r : ℝ, a0 m c i = r) (h5 : ∀ i, ∃ r : ℝ, a5 m c i = r) (h8 : ∃ r : ℝ, a8 m c ix0 = r) : (W10 m ρ c (Proc.devRef .tc main_v71_0) : Vec Ideal S200704x128 .f32) = val_main_v221 (F := Ideal) (a0 m c) (a1 m c) (a2 m c) (a3 m c) (a4 m c) (a5 m c) (a6 m c) (a7 m c) (a8 m c) (a9 m c) (a10 m c) (a11 m c) (a12 m c) := by
  refine ((W10_arr m ρ c 4).trans (weighted_array (V9 m ρ) c)).trans ?_
  funext i
  obtain ⟨N, o, rfl⟩ := pairs (a := 200704) (b := 128) i
  rw [ReferenceIdeal.Ends.weighted_at]
  exact congrArg₂ (· * ·) ((congrFun (operand_v62 m ρ c) _).trans (flat_features m ρ c h0 h5 N o)) (weights_at m ρ c h0 h5 h8 N)

/-- The voxel numbers, at the sums. -/
theorem numbers_kept : (W10 m ρ c (Proc.devRef .tc main_v65) : Vec Ideal S200704 .i32) = val_main_v84 (F := Ideal) (a1 m c) (a2 m c) (a3 m c) (a4 m c) :=
  ((W10_of m ρ c main_v65 (by decide)).trans ((W9_of m ρ c main_v65 (by decide)).trans (W8_of m ρ c main_v65 (by decide)))).trans
    (flat_numbers m ρ c)

/-- The sums of the weights are the reference's. -/
theorem weight_sums (h0 : ∀ i, ∃ r : ℝ, a0 m c i = r) (h5 : ∀ i, ∃ r : ℝ, a5 m c i = r) (h8 : ∃ r : ℝ, a8 m c ix0 = r) : (W11 m ρ c (Proc.devRef .tc main_v87) : Vec Ideal S160000x1 .f32) = val_main_v219 (F := Ideal) (a0 m c) (a1 m c) (a2 m c) (a3 m c) (a4 m c) (a5 m c) (a6 m c) (a7 m c) (a8 m c) (a9 m c) (a10 m c) (a11 m c) (a12 m c) := by
  refine (Host.weight_sums (W10 m ρ c)).trans ?_
  rw [weights m ρ c h0 h5 h8, numbers_kept]
  rfl

/-- The sums of the weighted features. -/
theorem feature_sums (h0 : ∀ i, ∃ r : ℝ, a0 m c i = r) (h5 : ∀ i, ∃ r : ℝ, a5 m c i = r) (h8 : ∃ r : ℝ, a8 m c ix0 = r) : (W11 m ρ c (Proc.devRef .tc main_v79) : Vec Ideal S160000x128 .f32)
    = Host.scatterAdd (F := Ideal) (φ := .f32) ReferenceIdeal.scatter_S160000x128_S200704x1_S200704x128_1_0_0_1 (val_main_v232 (F := Ideal)) (val_main_v238 (F := Ideal) (a1 m c) (a2 m c) (a3 m c) (a4 m c)) (val_main_v221 (F := Ideal) (a0 m c) (a1 m c) (a2 m c) (a3 m c) (a4 m c) (a5 m c) (a6 m c) (a7 m c) (a8 m c) (a9 m c) (a10 m c) (a11 m c) (a12 m c)) := by
  refine (Host.feature_sums (W10 m ρ c)).trans ?_
  rw [weighted m ρ c h0 h5 h8, numbers_kept]
  rfl

/-- The averages are the reference's. -/
theorem averages (h0 : ∀ i, ∃ r : ℝ, a0 m c i = r) (h5 : ∀ i, ∃ r : ℝ, a5 m c i = r) (h8 : ∃ r : ℝ, a8 m c ix0 = r) : (W12 m ρ c (Proc.devRef .tc main_v88_0) : Vec Ideal S160000x128 .f32) = val_main_v239 (F := Ideal) (a0 m c) (a1 m c) (a2 m c) (a3 m c) (a4 m c) (a5 m c) (a6 m c) (a7 m c) (a8 m c) (a9 m c) (a10 m c) (a11 m c) (a12 m c) := by
  refine ((W12_arr m ρ c 2).trans (average_array (V11 m ρ) c)).trans ?_
  funext i
  obtain ⟨r, o, rfl⟩ := pairs (a := 160000) (b := 128) i
  rw [ReferenceIdeal.Ends.average_at]
  exact congrArg₂ (fun a w => Ideal.div a (max (Ideal.ofBits .f32 0x38D1B717#32) w)) (congrFun (feature_sums m ρ c h0 h5 h8) _)
    (congrFun (weight_sums m ρ c h0 h5 h8) _)

/-- The mask is the reference's. -/
theorem mask (h0 : ∀ i, ∃ r : ℝ, a0 m c i = r) (h5 : ∀ i, ∃ r : ℝ, a5 m c i = r) (h8 : ∃ r : ℝ, a8 m c ix0 = r) : (W12 m ρ c (Proc.devRef .tc main_v88_1) : Vec Ideal S160000x1 .f32) = uitofp (F := Ideal) .f32 (val_main_v244 (F := Ideal) (a0 m c) (a1 m c) (a2 m c) (a3 m c) (a4 m c) (a5 m c) (a6 m c) (a7 m c) (a8 m c) (a9 m c) (a10 m c) (a11 m c) (a12 m c)) := by
  refine ((W12_arr m ρ c 3).trans (mask_array (V11 m ρ) c)).trans ?_
  funext i
  obtain ⟨r, z, rfl⟩ := pairs (a := 160000) (b := 1) i
  obtain rfl : z = 0 := Subsingleton.elim _ _
  refine (bit_float _).trans ?_
  exact congrArg (fun w => FloatOps.uitofp (F := Ideal) .f32 (FloatOps.cmpf (F := Ideal) (φ := .f32) .ogt w (Ideal.ofBits .f32 0x358637BD#32)))
    (congrFun (weight_sums m ρ c h0 h5 h8) (ix2 r 0))

/-- The first result is the reference's. -/
theorem result_features (h0 : ∀ i, ∃ r : ℝ, a0 m c i = r) (h5 : ∀ i, ∃ r : ℝ, a5 m c i = r) (h8 : ∃ r : ℝ, a8 m c ix0 = r) : (W16 m ρ c (Proc.devRef .tc main_v91) : Vec Ideal S4x128x200x200 .f32) = val_main_v242 (F := Ideal) (a0 m c) (a1 m c) (a2 m c) (a3 m c) (a4 m c) (a5 m c) (a6 m c) (a7 m c) (a8 m c) (a9 m c) (a10 m c) (a11 m c) (a12 m c) := by
  refine ((W16_of m ρ c main_v91 (by decide)).trans (W15_of m ρ c main_v91 (by decide))).trans ?_
  refine (Host.result_features (W12 m ρ c)).trans ?_
  rw [averages m ρ c h0 h5 h8]
  rfl

/-- The second result is the reference's. -/
theorem result_mask (h0 : ∀ i, ∃ r : ℝ, a0 m c i = r) (h5 : ∀ i, ∃ r : ℝ, a5 m c i = r) (h8 : ∃ r : ℝ, a8 m c ix0 = r) : (W16 m ρ c (Proc.devRef .tc main_v94) : Vec Ideal S4x1x200x200 .f32) = val_main_v248 (F := Ideal) (a0 m c) (a1 m c) (a2 m c) (a3 m c) (a4 m c) (a5 m c) (a6 m c) (a7 m c) (a8 m c) (a9 m c) (a10 m c) (a11 m c) (a12 m c) := by
  refine (Host.result_mask (W14 m ρ c)).trans ?_
  have e : (W14 m ρ c (Proc.devRef .tc main_v88_1) : Vec Ideal S160000x1 .f32) = uitofp (F := Ideal) .f32 (val_main_v244 (F := Ideal) (a0 m c) (a1 m c) (a2 m c) (a3 m c) (a4 m c) (a5 m c) (a6 m c) (a7 m c) (a8 m c) (a9 m c) (a10 m c) (a11 m c) (a12 m c)) :=
    ((W14_of m ρ c main_v88_1 (by decide)).trans (W13_of m ρ c main_v88_1 (by decide))).trans (mask m ρ c h0 h5 h8)
  rw [e]
  rfl

end Cert.KernelIdeal.Results

end
-- ==== Proof.lean ====
/-
The certificate: the frames of the kernel, of its idealization and of the reference, the one named constant, and the
equation of the idealization's two results with the reference's over the extended reals.

Each claim is a theorem here. The equation is `Proof/Results.lean`'s, at the arguments the precondition makes real
(`Proof/Finite.lean`); the runs are `Proof/RunValue.lean`'s for the kernel and the generated one for the reference.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.Finite
public import proofs.«01_k».proof.Proof.RunValue
public import proofs.«01_k».proof.Proof.Results
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs, leaves its arguments and every counter as it found them. -/
theorem frame_kernel : Cert.quiescent_Kernel := fun m ρ _ => Cert.Kernel.Gen.frame m ρ

/-- So does its idealization. -/
theorem frame_ideal : Cert.quiescent_KernelIdeal := fun m ρ _ => Cert.KernelIdeal.Gen.frame m ρ

/-- So does its idealization on finite arguments. -/
theorem frame_ideal_finite [hPre_finite : Cert.Pre_finite.Facts] : Cert.quiescent_KernelIdeal_pre_finite :=
  fun m ρ _ => Cert.KernelIdeal.Gen.frame m ρ

/-- So does the reference, which declares no counter. -/
theorem frame_reference : Cert.quiescent_ReferenceIdeal := fun m ρ _ =>
  (θ_run Cert.ReferenceIdeal.defs _ _).mono (fun r h => And.intro (fun c => (h c).2.2)
      (Idealize.ShloMosaic.sem_eq_zero_of_no_sems (by decide) r.2))
    (Cert.ReferenceIdeal.Value.run (F := Ideal) m ρ)

/-- The reference's frame on finite arguments. -/
theorem frame_reference_finite [hPre_finite : Cert.Pre_finite.Facts] : Cert.quiescent_ReferenceIdeal_pre_finite :=
  fun m ρ _ => frame_reference m ρ trivial

/-- The named constant is the word the kernel prints, and its value is 1/784. -/
theorem preserves : Cert.preserves_Kernel_KernelIdeal :=
  IdealRules.named_const.statement Cert.KernelIdeal.κ "inv_n" .f32 0x3AA72F05#32 ((1 / 784 : ℝ) : EReal) rfl

/-- On finite arguments the idealization's two results are the reference's. -/
theorem algebraic [hPre_finite : Cert.Pre_finite.Facts] : Cert.algebraic_KernelIdeal_ReferenceIdeal_pre_finite := by
  intro m ρ m' ρ' hpre hagree
  have hreal := fun c => Cert.Pre_finite.Hand.reals _ _ _ _ _ _ _ _ _ _ _ _ _ (hpre c)
  refine ⟨_, _, Cert.KernelIdeal.RunValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12⟩ := hagree c
    refine (Cert.ReferenceIdeal.Read.val_main_v242_eq (StableHlo.launchContents m' c)).trans ?_
    refine Eq.trans ?_ (Cert.KernelIdeal.Results.result_features m ρ c (hreal c).1 (hreal c).2.1 ((hreal c).2.2 _)).symm
    unfold StableHlo.launchContents
    erw [h0, h1, h2, h3, h4, h5, h6, h7, h8, h9, h10, h11, h12]
  · obtain ⟨h0, h1, h2, h3, h4, h5, h6, h7, h8, h9, h10, h11, h12⟩ := hagree c
    refine (Cert.ReferenceIdeal.Read.val_main_v248_eq (StableHlo.launchContents m' c)).trans ?_
    refine Eq.trans ?_ (Cert.KernelIdeal.Results.result_mask m ρ c (hreal c).1 (hreal c).2.1 ((hreal c).2.2 _)).symm
    unfold StableHlo.launchContents
    erw [h0, h1, h2, h3, h4, h5, h6, h7, h8, h9, h10, h11, h12]

/-- The claim. -/
theorem claim : Cert.Claim :=
  ⟨Cert.Kernel.Gen.facts, Cert.KernelIdeal.Gen.facts, Cert.ReferenceIdeal.Gen.facts, Cert.Pre_finite.Hand.facts,
    frame_kernel, frame_ideal, frame_ideal_finite (hPre_finite := Cert.Pre_finite.Hand.facts), frame_reference,
    frame_reference_finite (hPre_finite := Cert.Pre_finite.Hand.facts), preserves,
    algebraic (hPre_finite := Cert.Pre_finite.Hand.facts)⟩

end Cert.Proof

end
